-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_ctx" .f32 0x3D4CCCCD#32 ((1 / 20 : ℝ) : EReal)

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S1024x20 : Shape := ⟨2, ![1024, 20]⟩
abbrev S100000x64 : Shape := ⟨2, ![100000, 64]⟩
abbrev S100000 : Shape := ⟨1, ![100000]⟩
abbrev S_ : Shape := ⟨0, ![]⟩

class Facts : Prop where
  bcast_S_S1024x20 : S_.BroadcastsInDim S1024x20 (![] : Fin 0 → Fin S1024x20.rank)
  reducesTo_S1024x20_S_d0_1 : S1024x20.ReducesTo [0, 1] S_
  h_S_ : 0 < S_.numel

variable [Facts]

def fn {F : FTy → Type} [FloatOps F] (main_arg0 : IVec S1024x20 32) (main_arg1 : FVec F S100000x64 .f32) (main_arg2 : FVec F S100000x64 .f32) (main_arg3 : FVec F S100000 .f32) : IVec S_ 1 :=
  let main_c : IVec S_ 32 := constantI S_ 32 0#32
  let main_v0 : IVec S1024x20 32 := broadcastInDim S1024x20 ![] bcast_S_S1024x20 main_c
  let main_v1 : IVec S1024x20 1 := cmpi .sge main_arg0 main_v0
  let main_c_0 : IVec S_ 32 := constantI S_ 32 100000#32
  let main_v2 : IVec S1024x20 32 := broadcastInDim S1024x20 ![] bcast_S_S1024x20 main_c_0
  let main_v3 : IVec S1024x20 1 := cmpi .slt main_arg0 main_v2
  let main_v4 : IVec S1024x20 1 := andi main_v1 main_v3
  let main_c_1 : IVec S_ 1 := constantI S_ 1 1#1
  let main_v5 : IVec S_ 1 := (fun x v => Host.reduce IntOp.andi x v reducesTo_S1024x20_S_d0_1 h_S_) main_v4 main_c_1
  main_v5
-- ==== Kernel.lean ====
abbrev S1024x20 : Shape := ⟨2, ![1024, 20]⟩
abbrev S100000x64 : Shape := ⟨2, ![100000, 64]⟩
abbrev S100000 : Shape := ⟨1, ![100000]⟩
abbrev S20x1024 : Shape := ⟨2, ![20, 1024]⟩
abbrev S20480 : Shape := ⟨1, ![20480]⟩
abbrev S64x100000 : Shape := ⟨2, ![64, 100000]⟩
abbrev S64x1024 : Shape := ⟨2, ![64, 1024]⟩
abbrev S1024 : Shape := ⟨1, ![1024]⟩
abbrev S_ : Shape := ⟨0, ![]⟩
abbrev S1x100000 : Shape := ⟨2, ![1, 100000]⟩
abbrev S16 : Shape := ⟨1, ![16]⟩
abbrev S1x1024 : Shape := ⟨2, ![1, 1024]⟩
abbrev S100000x1024 : Shape := ⟨2, ![100000, 1024]⟩
abbrev S64x4096 : Shape := ⟨2, ![64, 4096]⟩
abbrev S4096 : Shape := ⟨1, ![4096]⟩
abbrev S4096x1024 : Shape := ⟨2, ![4096, 1024]⟩
abbrev S1x4096 : Shape := ⟨2, ![1, 4096]⟩
abbrev S1024x100000 : Shape := ⟨2, ![1024, 100000]⟩

abbrev nBuf : Table → Nat
  | .hbm => 11
  | .local .tc .vmem => 7
  | .local .scVector .vmem => 3
  | _ => 0

abbrev bufTy : (tb : Table) → Fin (nBuf tb) → BufTy
  | .hbm, ⟨0, _⟩ => ⟨S1024x20, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S20x1024, .i32⟩
  | .hbm, ⟨5, _⟩ => ⟨S20480, .i32⟩
  | .hbm, ⟨6, _⟩ => ⟨S64x100000, .f32⟩
  | .hbm, ⟨7, _⟩ => ⟨S64x1024, .f32⟩
  | .hbm, ⟨8, _⟩ => ⟨S64x100000, .f32⟩
  | .hbm, ⟨9, _⟩ => ⟨S100000x1024, .f32⟩
  | .hbm, ⟨10, _⟩ => ⟨S1024x100000, .f32⟩
  | .local .tc .vmem, ⟨0, _⟩ => ⟨S64x1024, .f32⟩
  | .local .tc .vmem, ⟨1, _⟩ => ⟨S64x4096, .f32⟩
  | .local .tc .vmem, ⟨2, _⟩ => ⟨S64x4096, .f32⟩
  | .local .tc .vmem, ⟨3, _⟩ => ⟨S4096, .f32⟩
  | .local .tc .vmem, ⟨4, _⟩ => ⟨S4096, .f32⟩
  | .local .tc .vmem, ⟨5, _⟩ => ⟨S4096x1024, .f32⟩
  | .local .tc .vmem, ⟨6, _⟩ => ⟨S4096x1024, .f32⟩
  | .local .scVector .vmem, ⟨0, _⟩ => ⟨S20480, .i32⟩
  | .local .scVector .vmem, ⟨1, _⟩ => ⟨S100000, .f32⟩
  | .local .scVector .vmem, ⟨2, _⟩ => ⟨S1024, .f32⟩
  | _, _ => ⟨S1024x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v2_scv : Ref sig .scVector := ⟨.hbm, 6, rfl⟩
abbrev main_v1_scv : Ref sig .scVector := ⟨.hbm, 5, rfl⟩
abbrev main_v3_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c2_i32_0 : BitVec 32 := 2#32
  let v2 : BitVec 32 := Scalar.addi c0_i32 c2_i32_0
  let c1_i32 : BitVec 32 := 1#32
  ⟨c0_i32, v2, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c0_i32 : BitVec 32 := 0#32
  let c1_i32 : BitVec 32 := 1#32
  let arg9 : BitVec 32 := Scf.iv c0_i32 c1_i32 k0_t1
  let c1_i32_2 : BitVec 32 := 1#32
  let v3 : BitVec 32 := Scalar.muli arg9 c1_i32_2
  let v4 : BitVec 32 := Scalar.addi c0_i32_3 v3
  let c32_i32 : BitVec 32 := 32#32
  let v5 : BitVec 32 := Scalar.muli v4 c32_i32
  let v6 : BitVec 32 := Scalar.addi v1 v5
  let c0_i32_14_r1 : BitVec 32 := 0#32
  ![v6.toNat, 0]
@[reducible] def k0_t2_loop : Scf.Loop 32 :=
  let c0_i32_4 : BitVec 32 := 0#32
  let c16_i32 : BitVec 32 := 16#32
  let v7 : BitVec 32 := Scalar.addi c0_i32_4 c16_i32
  let c1_i32_5 : BitVec 32 := 1#32
  ⟨c0_i32_4, v7, c1_i32_5⟩
def k0_off2 (k0_t2 : Fin k0_t2_loop.trips) : Fin 1 → Nat :=
  let c0_i32_15 : BitVec 32 := 0#32
  let c0_i32_4 : BitVec 32 := 0#32
  let c1_i32_5 : BitVec 32 := 1#32
  let arg10 : BitVec 32 := Scf.iv c0_i32_4 c1_i32_5 k0_t2
  let c1_i32_14 : BitVec 32 := 1#32
  let v10 : BitVec 32 := Scalar.muli arg10 c1_i32_14
  let v11 : BitVec 32 := Scalar.addi c0_i32_15 v10
  let c4_i32 : BitVec 32 := 4#32
  let v12 : BitVec 32 := Scalar.muli v11 c4_i32
  let c0_i32_16 : BitVec 32 := 0#32
  let v13 : BitVec 32 := Scalar.addi v12 c0_i32_16
  let c16_i32_17 : BitVec 32 := 16#32
  let v14 : BitVec 32 := Scalar.muli v13 c16_i32_17
  let v15 : Index := Scalar.indexCast v14
  ![v15.toNat]

def k0_chk1 (v16 : IVec S16 32) : Prop :=
  (∀ a x, ((![v16] : Fin 1 → IVec S16 32) a x).toNat < S100000.size a)
theorem k0_idx1_inb : ∀ (v16 : IVec S16 32) (k0_hw1 : k0_chk1 v16), ∀ a x, ((![v16] : Fin 1 → IVec S16 32) a x).toNat < S100000.size a := fun v16 k0_hw1 => k0_hw1
def k0_off3 (k0_t2 : Fin k0_t2_loop.trips) : Fin 1 → Nat :=
  let c0_i32_15 : BitVec 32 := 0#32
  let c0_i32_4 : BitVec 32 := 0#32
  let c1_i32_5 : BitVec 32 := 1#32
  let arg10 : BitVec 32 := Scf.iv c0_i32_4 c1_i32_5 k0_t2
  let c1_i32_14 : BitVec 32 := 1#32
  let v10 : BitVec 32 := Scalar.muli arg10 c1_i32_14
  let v11 : BitVec 32 := Scalar.addi c0_i32_15 v10
  let c4_i32 : BitVec 32 := 4#32
  let v12 : BitVec 32 := Scalar.muli v11 c4_i32
  let c0_i32_16 : BitVec 32 := 0#32
  let v13 : BitVec 32 := Scalar.addi v12 c0_i32_16
  let c16_i32_17 : BitVec 32 := 16#32
  let v14 : BitVec 32 := Scalar.muli v13 c16_i32_17
  let v18 : Index := Scalar.indexCast v14
  ![v18.toNat]
def k0_off4 (k0_t2 : Fin k0_t2_loop.trips) : Fin 1 → Nat :=
  let c0_i32_15 : BitVec 32 := 0#32
  let c0_i32_4 : BitVec 32 := 0#32
  let c1_i32_5 : BitVec 32 := 1#32
  let arg10 : BitVec 32 := Scf.iv c0_i32_4 c1_i32_5 k0_t2
  let c1_i32_14 : BitVec 32 := 1#32
  let v10 : BitVec 32 := Scalar.muli arg10 c1_i32_14
  let v11 : BitVec 32 := Scalar.addi c0_i32_15 v10
  let c4_i32_18 : BitVec 32 := 4#32
  let v20 : BitVec 32 := Scalar.muli v11 c4_i32_18
  let c1_i32_19 : BitVec 32 := 1#32
  let v21 : BitVec 32 := Scalar.addi v20 c1_i32_19
  let c16_i32_20 : BitVec 32 := 16#32
  let v22 : BitVec 32 := Scalar.muli v21 c16_i32_20
  let v23 : Index := Scalar.indexCast v22
  ![v23.toNat]

def k0_chk2 (v24 : IVec S16 32) : Prop :=
  (∀ a x, ((![v24] : Fin 1 → IVec S16 32) a x).toNat < S100000.size a)
theorem k0_idx2_inb : ∀ (v24 : IVec S16 32) (k0_hw2 : k0_chk2 v24), ∀ a x, ((![v24] : Fin 1 → IVec S16 32) a x).toNat < S100000.size a := fun v24 k0_hw2 => k0_hw2
def k0_off5 (k0_t2 : Fin k0_t2_loop.trips) : Fin 1 → Nat :=
  let c0_i32_15 : BitVec 32 := 0#32
  let c0_i32_4 : BitVec 32 := 0#32
  let c1_i32_5 : BitVec 32 := 1#32
  let arg10 : BitVec 32 := Scf.iv c0_i32_4 c1_i32_5 k0_t2
  let c1_i32_14 : BitVec 32 := 1#32
  let v10 : BitVec 32 := Scalar.muli arg10 c1_i32_14
  let v11 : BitVec 32 := Scalar.addi c0_i32_15 v10
  let c4_i32_18 : BitVec 32 := 4#32
  let v20 : BitVec 32 := Scalar.muli v11 c4_i32_18
  let c1_i32_19 : BitVec 32 := 1#32
  let v21 : BitVec 32 := Scalar.addi v20 c1_i32_19
  let c16_i32_20 : BitVec 32 := 16#32
  let v22 : BitVec 32 := Scalar.muli v21 c16_i32_20
  let v26 : Index := Scalar.indexCast v22
  ![v26.toNat]
def k0_off6 (k0_t2 : Fin k0_t2_loop.trips) : Fin 1 → Nat :=
  let c0_i32_15 : BitVec 32 := 0#32
  let c0_i32_4 : BitVec 32 := 0#32
  let c1_i32_5 : BitVec 32 := 1#32
  let arg10 : BitVec 32 := Scf.iv c0_i32_4 c1_i32_5 k0_t2
  let c1_i32_14 : BitVec 32 := 1#32
  let v10 : BitVec 32 := Scalar.muli arg10 c1_i32_14
  let v11 : BitVec 32 := Scalar.addi c0_i32_15 v10
  let c4_i32_21 : BitVec 32 := 4#32
  let v28 : BitVec 32 := Scalar.muli v11 c4_i32_21
  let c2_i32_22 : BitVec 32 := 2#32
  let v29 : BitVec 32 := Scalar.addi v28 c2_i32_22
  let c16_i32_23 : BitVec 32 := 16#32
  let v30 : BitVec 32 := Scalar.muli v29 c16_i32_23
  let v31 : Index := Scalar.indexCast v30
  ![v31.toNat]

def k0_chk3 (v32 : IVec S16 32) : Prop :=
  (∀ a x, ((![v32] : Fin 1 → IVec S16 32) a x).toNat < S100000.size a)
theorem k0_idx3_inb : ∀ (v32 : IVec S16 32) (k0_hw3 : k0_chk3 v32), ∀ a x, ((![v32] : Fin 1 → IVec S16 32) a x).toNat < S100000.size a := fun v32 k0_hw3 => k0_hw3
def k0_off7 (k0_t2 : Fin k0_t2_loop.trips) : Fin 1 → Nat :=
  let c0_i32_15 : BitVec 32 := 0#32
  let c0_i32_4 : BitVec 32 := 0#32
  let c1_i32_5 : BitVec 32 := 1#32
  let arg10 : BitVec 32 := Scf.iv c0_i32_4 c1_i32_5 k0_t2
  let c1_i32_14 : BitVec 32 := 1#32
  let v10 : BitVec 32 := Scalar.muli arg10 c1_i32_14
  let v11 : BitVec 32 := Scalar.addi c0_i32_15 v10
  let c4_i32_21 : BitVec 32 := 4#32
  let v28 : BitVec 32 := Scalar.muli v11 c4_i32_21
  let c2_i32_22 : BitVec 32 := 2#32
  let v29 : BitVec 32 := Scalar.addi v28 c2_i32_22
  let c16_i32_23 : BitVec 32 := 16#32
  let v30 : BitVec 32 := Scalar.muli v29 c16_i32_23
  let v34 : Index := Scalar.indexCast v30
  ![v34.toNat]
def k0_off8 (k0_t2 : Fin k0_t2_loop.trips) : Fin 1 → Nat :=
  let c0_i32_15 : BitVec 32 := 0#32
  let c0_i32_4 : BitVec 32 := 0#32
  let c1_i32_5 : BitVec 32 := 1#32
  let arg10 : BitVec 32 := Scf.iv c0_i32_4 c1_i32_5 k0_t2
  let c1_i32_14 : BitVec 32 := 1#32
  let v10 : BitVec 32 := Scalar.muli arg10 c1_i32_14
  let v11 : BitVec 32 := Scalar.addi c0_i32_15 v10
  let c4_i32_24 : BitVec 32 := 4#32
  let v36 : BitVec 32 := Scalar.muli v11 c4_i32_24
  let c3_i32 : BitVec 32 := 3#32
  let v37 : BitVec 32 := Scalar.addi v36 c3_i32
  let c16_i32_25 : BitVec 32 := 16#32
  let v38 : BitVec 32 := Scalar.muli v37 c16_i32_25
  let v39 : Index := Scalar.indexCast v38
  ![v39.toNat]

def k0_chk4 (v40 : IVec S16 32) : Prop :=
  (∀ a x, ((![v40] : Fin 1 → IVec S16 32) a x).toNat < S100000.size a)
theorem k0_idx4_inb : ∀ (v40 : IVec S16 32) (k0_hw4 : k0_chk4 v40), ∀ a x, ((![v40] : Fin 1 → IVec S16 32) a x).toNat < S100000.size a := fun v40 k0_hw4 => k0_hw4
def k0_off9 (k0_t2 : Fin k0_t2_loop.trips) : Fin 1 → Nat :=
  let c0_i32_15 : BitVec 32 := 0#32
  let c0_i32_4 : BitVec 32 := 0#32
  let c1_i32_5 : BitVec 32 := 1#32
  let arg10 : BitVec 32 := Scf.iv c0_i32_4 c1_i32_5 k0_t2
  let c1_i32_14 : BitVec 32 := 1#32
  let v10 : BitVec 32 := Scalar.muli arg10 c1_i32_14
  let v11 : BitVec 32 := Scalar.addi c0_i32_15 v10
  let c4_i32_24 : BitVec 32 := 4#32
  let v36 : BitVec 32 := Scalar.muli v11 c4_i32_24
  let c3_i32 : BitVec 32 := 3#32
  let v37 : BitVec 32 := Scalar.addi v36 c3_i32
  let c16_i32_25 : BitVec 32 := 16#32
  let v38 : BitVec 32 := Scalar.muli v37 c16_i32_25
  let v42 : Index := Scalar.indexCast v38
  ![v42.toNat]
@[reducible] def k0_t3_loop : Scf.Loop 32 :=
  let c0_i32_7 : BitVec 32 := 0#32
  let c19_i32 : BitVec 32 := 19#32
  let v8 : BitVec 32 := Scalar.addi c0_i32_7 c19_i32
  let c1_i32_8 : BitVec 32 := 1#32
  ⟨c0_i32_7, v8, c1_i32_8⟩
@[reducible] def k0_t4_loop : Scf.Loop 32 :=
  let c0_i32_16 : BitVec 32 := 0#32
  let c16_i32_17 : BitVec 32 := 16#32
  let v12 : BitVec 32 := Scalar.addi c0_i32_16 c16_i32_17
  let c1_i32_18 : BitVec 32 := 1#32
  ⟨c0_i32_16, v12, c1_i32_18⟩
def k0_off10 (k0_t3 : Fin k0_t3_loop.trips) (k0_t4 : Fin k0_t4_loop.trips) : Fin 1 → Nat :=
  let c1_i32_15 : BitVec 32 := 1#32
  let c0_i32_7 : BitVec 32 := 0#32
  let c1_i32_8 : BitVec 32 := 1#32
  let arg10 : BitVec 32 := Scf.iv c0_i32_7 c1_i32_8 k0_t3
  let c1_i32_14 : BitVec 32 := 1#32
  let v10 : BitVec 32 := Scalar.muli arg10 c1_i32_14
  let v11 : BitVec 32 := Scalar.addi c1_i32_15 v10
  let c1024_i32 : BitVec 32 := 1024#32
  let v18 : BitVec 32 := Scalar.muli v11 c1024_i32
  let c0_i32_21 : BitVec 32 := 0#32
  let c0_i32_16 : BitVec 32 := 0#32
  let c1_i32_18 : BitVec 32 := 1#32
  let arg11 : BitVec 32 := Scf.iv c0_i32_16 c1_i32_18 k0_t4
  let c1_i32_20 : BitVec 32 := 1#32
  let v13 : BitVec 32 := Scalar.muli arg11 c1_i32_20
  let v14 : BitVec 32 := Scalar.addi c0_i32_21 v13
  let c4_i32 : BitVec 32 := 4#32
  let v15 : BitVec 32 := Scalar.muli v14 c4_i32
  let c0_i32_22 : BitVec 32 := 0#32
  let v16 : BitVec 32 := Scalar.addi v15 c0_i32_22
  let c16_i32_23 : BitVec 32 := 16#32
  let v17 : BitVec 32 := Scalar.muli v16 c16_i32_23
  let v19 : BitVec 32 := Scalar.addi v18 v17
  let v20 : Index := Scalar.indexCast v19
  ![v20.toNat]

def k0_chk5 (v21 : IVec S16 32) : Prop :=
  (∀ a x, ((![v21] : Fin 1 → IVec S16 32) a x).toNat < S100000.size a)
theorem k0_idx5_inb : ∀ (v21 : IVec S16 32) (k0_hw5 : k0_chk5 v21), ∀ a x, ((![v21] : Fin 1 → IVec S16 32) a x).toNat < S100000.size a := fun v21 k0_hw5 => k0_hw5
def k0_off11 (k0_t4 : Fin k0_t4_loop.trips) : Fin 1 → Nat :=
  let c0_i32_21 : BitVec 32 := 0#32
  let c0_i32_16 : BitVec 32 := 0#32
  let c1_i32_18 : BitVec 32 := 1#32
  let arg11 : BitVec 32 := Scf.iv c0_i32_16 c1_i32_18 k0_t4
  let c1_i32_20 : BitVec 32 := 1#32
  let v13 : BitVec 32 := Scalar.muli arg11 c1_i32_20
  let v14 : BitVec 32 := Scalar.addi c0_i32_21 v13
  let c4_i32 : BitVec 32 := 4#32
  let v15 : BitVec 32 := Scalar.muli v14 c4_i32
  let c0_i32_22 : BitVec 32 := 0#32
  let v16 : BitVec 32 := Scalar.addi v15 c0_i32_22
  let c16_i32_23 : BitVec 32 := 16#32
  let v17 : BitVec 32 := Scalar.muli v16 c16_i32_23
  let v23 : Index := Scalar.indexCast v17
  ![v23.toNat]
def k0_off12 (k0_t3 : Fin k0_t3_loop.trips) (k0_t4 : Fin k0_t4_loop.trips) : Fin 1 → Nat :=
  let c1_i32_15 : BitVec 32 := 1#32
  let c0_i32_7 : BitVec 32 := 0#32
  let c1_i32_8 : BitVec 32 := 1#32
  let arg10 : BitVec 32 := Scf.iv c0_i32_7 c1_i32_8 k0_t3
  let c1_i32_14 : BitVec 32 := 1#32
  let v10 : BitVec 32 := Scalar.muli arg10 c1_i32_14
  let v11 : BitVec 32 := Scalar.addi c1_i32_15 v10
  let c1024_i32_27 : BitVec 32 := 1024#32
  let v31 : BitVec 32 := Scalar.muli v11 c1024_i32_27
  let c0_i32_21 : BitVec 32 := 0#32
  let c0_i32_16 : BitVec 32 := 0#32
  let c1_i32_18 : BitVec 32 := 1#32
  let arg11 : BitVec 32 := Scf.iv c0_i32_16 c1_i32_18 k0_t4
  let c1_i32_20 : BitVec 32 := 1#32
  let v13 : BitVec 32 := Scalar.muli arg11 c1_i32_20
  let v14 : BitVec 32 := Scalar.addi c0_i32_21 v13
  let c4_i32_24 : BitVec 32 := 4#32
  let v28 : BitVec 32 := Scalar.muli v14 c4_i32_24
  let c1_i32_25 : BitVec 32 := 1#32
  let v29 : BitVec 32 := Scalar.addi v28 c1_i32_25
  let c16_i32_26 : BitVec 32 := 16#32
  let v30 : BitVec 32 := Scalar.muli v29 c16_i32_26
  let v32 : BitVec 32 := Scalar.addi v31 v30
  let v33 : Index := Scalar.indexCast v32
  ![v33.toNat]

def k0_chk6 (v34 : IVec S16 32) : Prop :=
  (∀ a x, ((![v34] : Fin 1 → IVec S16 32) a x).toNat < S100000.size a)
theorem k0_idx6_inb : ∀ (v34 : IVec S16 32) (k0_hw6 : k0_chk6 v34), ∀ a x, ((![v34] : Fin 1 → IVec S16 32) a x).toNat < S100000.size a := fun v34 k0_hw6 => k0_hw6
def k0_off13 (k0_t4 : Fin k0_t4_loop.trips) : Fin 1 → Nat :=
  let c0_i32_21 : BitVec 32 := 0#32
  let c0_i32_16 : BitVec 32 := 0#32
  let c1_i32_18 : BitVec 32 := 1#32
  let arg11 : BitVec 32 := Scf.iv c0_i32_16 c1_i32_18 k0_t4
  let c1_i32_20 : BitVec 32 := 1#32
  let v13 : BitVec 32 := Scalar.muli arg11 c1_i32_20
  let v14 : BitVec 32 := Scalar.addi c0_i32_21 v13
  let c4_i32_24 : BitVec 32 := 4#32
  let v28 : BitVec 32 := Scalar.muli v14 c4_i32_24
  let c1_i32_25 : BitVec 32 := 1#32
  let v29 : BitVec 32 := Scalar.addi v28 c1_i32_25
  let c16_i32_26 : BitVec 32 := 16#32
  let v30 : BitVec 32 := Scalar.muli v29 c16_i32_26
  let v36 : Index := Scalar.indexCast v30
  ![v36.toNat]
def k0_off14 (k0_t3 : Fin k0_t3_loop.trips) (k0_t4 : Fin k0_t4_loop.trips) : Fin 1 → Nat :=
  let c1_i32_15 : BitVec 32 := 1#32
  let c0_i32_7 : BitVec 32 := 0#32
  let c1_i32_8 : BitVec 32 := 1#32
  let arg10 : BitVec 32 := Scf.iv c0_i32_7 c1_i32_8 k0_t3
  let c1_i32_14 : BitVec 32 := 1#32
  let v10 : BitVec 32 := Scalar.muli arg10 c1_i32_14
  let v11 : BitVec 32 := Scalar.addi c1_i32_15 v10
  let c1024_i32_31 : BitVec 32 := 1024#32
  let v44 : BitVec 32 := Scalar.muli v11 c1024_i32_31
  let c0_i32_21 : BitVec 32 := 0#32
  let c0_i32_16 : BitVec 32 := 0#32
  let c1_i32_18 : BitVec 32 := 1#32
  let arg11 : BitVec 32 := Scf.iv c0_i32_16 c1_i32_18 k0_t4
  let c1_i32_20 : BitVec 32 := 1#32
  let v13 : BitVec 32 := Scalar.muli arg11 c1_i32_20
  let v14 : BitVec 32 := Scalar.addi c0_i32_21 v13
  let c4_i32_28 : BitVec 32 := 4#32
  let v41 : BitVec 32 := Scalar.muli v14 c4_i32_28
  let c2_i32_29 : BitVec 32 := 2#32
  let v42 : BitVec 32 := Scalar.addi v41 c2_i32_29
  let c16_i32_30 : BitVec 32 := 16#32
  let v43 : BitVec 32 := Scalar.muli v42 c16_i32_30
  let v45 : BitVec 32 := Scalar.addi v44 v43
  let v46 : Index := Scalar.indexCast v45
  ![v46.toNat]

def k0_chk7 (v47 : IVec S16 32) : Prop :=
  (∀ a x, ((![v47] : Fin 1 → IVec S16 32) a x).toNat < S100000.size a)
theorem k0_idx7_inb : ∀ (v47 : IVec S16 32) (k0_hw7 : k0_chk7 v47), ∀ a x, ((![v47] : Fin 1 → IVec S16 32) a x).toNat < S100000.size a := fun v47 k0_hw7 => k0_hw7
def k0_off15 (k0_t4 : Fin k0_t4_loop.trips) : Fin 1 → Nat :=
  let c0_i32_21 : BitVec 32 := 0#32
  let c0_i32_16 : BitVec 32 := 0#32
  let c1_i32_18 : BitVec 32 := 1#32
  let arg11 : BitVec 32 := Scf.iv c0_i32_16 c1_i32_18 k0_t4
  let c1_i32_20 : BitVec 32 := 1#32
  let v13 : BitVec 32 := Scalar.muli arg11 c1_i32_20
  let v14 : BitVec 32 := Scalar.addi c0_i32_21 v13
  let c4_i32_28 : BitVec 32 := 4#32
  let v41 : BitVec 32 := Scalar.muli v14 c4_i32_28
  let c2_i32_29 : BitVec 32 := 2#32
  let v42 : BitVec 32 := Scalar.addi v41 c2_i32_29
  let c16_i32_30 : BitVec 32 := 16#32
  let v43 : BitVec 32 := Scalar.muli v42 c16_i32_30
  let v49 : Index := Scalar.indexCast v43
  ![v49.toNat]
def k0_off16 (k0_t3 : Fin k0_t3_loop.trips) (k0_t4 : Fin k0_t4_loop.trips) : Fin 1 → Nat :=
  let c1_i32_15 : BitVec 32 := 1#32
  let c0_i32_7 : BitVec 32 := 0#32
  let c1_i32_8 : BitVec 32 := 1#32
  let arg10 : BitVec 32 := Scf.iv c0_i32_7 c1_i32_8 k0_t3
  let c1_i32_14 : BitVec 32 := 1#32
  let v10 : BitVec 32 := Scalar.muli arg10 c1_i32_14
  let v11 : BitVec 32 := Scalar.addi c1_i32_15 v10
  let c1024_i32_34 : BitVec 32 := 1024#32
  let v57 : BitVec 32 := Scalar.muli v11 c1024_i32_34
  let c0_i32_21 : BitVec 32 := 0#32
  let c0_i32_16 : BitVec 32 := 0#32
  let c1_i32_18 : BitVec 32 := 1#32
  let arg11 : BitVec 32 := Scf.iv c0_i32_16 c1_i32_18 k0_t4
  let c1_i32_20 : BitVec 32 := 1#32
  let v13 : BitVec 32 := Scalar.muli arg11 c1_i32_20
  let v14 : BitVec 32 := Scalar.addi c0_i32_21 v13
  let c4_i32_32 : BitVec 32 := 4#32
  let v54 : BitVec 32 := Scalar.muli v14 c4_i32_32
  let c3_i32 : BitVec 32 := 3#32
  let v55 : BitVec 32 := Scalar.addi v54 c3_i32
  let c16_i32_33 : BitVec 32 := 16#32
  let v56 : BitVec 32 := Scalar.muli v55 c16_i32_33
  let v58 : BitVec 32 := Scalar.addi v57 v56
  let v59 : Index := Scalar.indexCast v58
  ![v59.toNat]

def k0_chk8 (v60 : IVec S16 32) : Prop :=
  (∀ a x, ((![v60] : Fin 1 → IVec S16 32) a x).toNat < S100000.size a)
theorem k0_idx8_inb : ∀ (v60 : IVec S16 32) (k0_hw8 : k0_chk8 v60), ∀ a x, ((![v60] : Fin 1 → IVec S16 32) a x).toNat < S100000.size a := fun v60 k0_hw8 => k0_hw8
def k0_off17 (k0_t4 : Fin k0_t4_loop.trips) : Fin 1 → Nat :=
  let c0_i32_21 : BitVec 32 := 0#32
  let c0_i32_16 : BitVec 32 := 0#32
  let c1_i32_18 : BitVec 32 := 1#32
  let arg11 : BitVec 32 := Scf.iv c0_i32_16 c1_i32_18 k0_t4
  let c1_i32_20 : BitVec 32 := 1#32
  let v13 : BitVec 32 := Scalar.muli arg11 c1_i32_20
  let v14 : BitVec 32 := Scalar.addi c0_i32_21 v13
  let c4_i32_32 : BitVec 32 := 4#32
  let v54 : BitVec 32 := Scalar.muli v14 c4_i32_32
  let c3_i32 : BitVec 32 := 3#32
  let v55 : BitVec 32 := Scalar.addi v54 c3_i32
  let c16_i32_33 : BitVec 32 := 16#32
  let v56 : BitVec 32 := Scalar.muli v55 c16_i32_33
  let v62 : Index := Scalar.indexCast v56
  ![v62.toNat]
@[reducible] def k0_t5_loop : Scf.Loop 32 :=
  let c0_i32_10 : BitVec 32 := 0#32
  let c16_i32_11 : BitVec 32 := 16#32
  let v9 : BitVec 32 := Scalar.addi c0_i32_10 c16_i32_11
  let c1_i32_12 : BitVec 32 := 1#32
  ⟨c0_i32_10, v9, c1_i32_12⟩
def k0_off18 (k0_t5 : Fin k0_t5_loop.trips) (c0_i32_16 : BitVec 32) : Fin 1 → Nat :=
  let c0_i32_15 : BitVec 32 := 0#32
  let c0_i32_10 : BitVec 32 := 0#32
  let c1_i32_12 : BitVec 32 := 1#32
  let arg10 : BitVec 32 := Scf.iv c0_i32_10 c1_i32_12 k0_t5
  let c1_i32_14 : BitVec 32 := 1#32
  let v10 : BitVec 32 := Scalar.muli arg10 c1_i32_14
  let v11 : BitVec 32 := Scalar.addi c0_i32_15 v10
  let c4_i32 : BitVec 32 := 4#32
  let v12 : BitVec 32 := Scalar.muli v11 c4_i32
  let v13 : BitVec 32 := Scalar.addi v12 c0_i32_16
  let c16_i32_17 : BitVec 32 := 16#32
  let v14 : BitVec 32 := Scalar.muli v13 c16_i32_17
  let v15 : Index := Scalar.indexCast v14
  ![v15.toNat]
def k0_off19 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c0_i32 : BitVec 32 := 0#32
  let c1_i32 : BitVec 32 := 1#32
  let arg9 : BitVec 32 := Scf.iv c0_i32 c1_i32 k0_t1
  let c1_i32_2 : BitVec 32 := 1#32
  let v3 : BitVec 32 := Scalar.muli arg9 c1_i32_2
  let v4 : BitVec 32 := Scalar.addi c0_i32_3 v3
  let c32_i32 : BitVec 32 := 32#32
  let v5 : BitVec 32 := Scalar.muli v4 c32_i32
  let v6 : BitVec 32 := Scalar.addi v1 v5
  let c0_i32_14_r2 : BitVec 32 := 0#32
  ![v6.toNat, 0]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S64x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_ctx" => some ((1 / 20 : ℝ) : EReal)
  | _ => none
-- ==== ReferenceIdeal.lean ====
abbrev S1024x20 : Shape := ⟨2, ![1024, 20]⟩
abbrev S100000x64 : Shape := ⟨2, ![100000, 64]⟩
abbrev S100000 : Shape := ⟨1, ![100000]⟩
abbrev S_ : Shape := ⟨0, ![]⟩
abbrev S1024x20x1 : Shape := ⟨3, ![1024, 20, 1]⟩
abbrev S1 : Shape := ⟨1, ![1]⟩
abbrev S1x1x1 : Shape := ⟨3, ![1, 1, 1]⟩
abbrev S1024x20x64 : Shape := ⟨3, ![1024, 20, 64]⟩
abbrev S1024x64 : Shape := ⟨2, ![1024, 64]⟩
abbrev S64x100000 : Shape := ⟨2, ![64, 100000]⟩
abbrev S1024x100000 : Shape := ⟨2, ![1024, 100000]⟩
abbrev S1x100000 : Shape := ⟨2, ![1, 100000]⟩

abbrev nBuf : Space → Nat
  | .hbm => 37
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S_, .i32⟩
  | .hbm, ⟨5, _⟩ => ⟨S1024x20, .i32⟩
  | .hbm, ⟨6, _⟩ => ⟨S1024x20, .i1⟩
  | .hbm, ⟨7, _⟩ => ⟨S_, .i32⟩
  | .hbm, ⟨8, _⟩ => ⟨S1024x20, .i32⟩
  | .hbm, ⟨9, _⟩ => ⟨S1024x20, .i32⟩
  | .hbm, ⟨10, _⟩ => ⟨S1024x20, .i32⟩
  | .hbm, ⟨11, _⟩ => ⟨S1024x20x1, .i32⟩
  | .hbm, ⟨12, _⟩ => ⟨S1, .i32⟩
  | .hbm, ⟨13, _⟩ => ⟨S_, .i32⟩
  | .hbm, ⟨14, _⟩ => ⟨S1024x20x1, .i32⟩
  | .hbm, ⟨15, _⟩ => ⟨S1024x20x1, .i1⟩
  | .hbm, ⟨16, _⟩ => ⟨S1x1x1, .i32⟩
  | .hbm, ⟨17, _⟩ => ⟨S1024x20x1, .i32⟩
  | .hbm, ⟨18, _⟩ => ⟨S1024x20x1, .i1⟩
  | .hbm, ⟨19, _⟩ => ⟨S1024x20x1, .i1⟩
  | .hbm, ⟨20, _⟩ => ⟨S_, .i1⟩
  | .hbm, ⟨21, _⟩ => ⟨S1024x20, .i1⟩
  | .hbm, ⟨22, _⟩ => ⟨S1024x20x64, .f32⟩
  | .hbm, ⟨23, _⟩ => ⟨S1024x20x64, .i1⟩
  | .hbm, ⟨24, _⟩ => ⟨S_, .f32⟩
  | .hbm, ⟨25, _⟩ => ⟨S1024x20x64, .f32⟩
  | .hbm, ⟨26, _⟩ => ⟨S1024x20x64, .f32⟩
  | .hbm, ⟨27, _⟩ => ⟨S_, .f32⟩
  | .hbm, ⟨28, _⟩ => ⟨S1024x64, .f32⟩
  | .hbm, ⟨29, _⟩ => ⟨S_, .f32⟩
  | .hbm, ⟨30, _⟩ => ⟨S1024x64, .f32⟩
  | .hbm, ⟨31, _⟩ => ⟨S1024x64, .f32⟩
  | .hbm, ⟨32, _⟩ => ⟨S64x100000, .f32⟩
  | .hbm, ⟨33, _⟩ => ⟨S1024x100000, .f32⟩
  | .hbm, ⟨34, _⟩ => ⟨S1x100000, .f32⟩
  | .hbm, ⟨35, _⟩ => ⟨S1024x100000, .f32⟩
  | .hbm, ⟨36, _⟩ => ⟨S1024x100000, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩

abbrev nD : Nat := 1
abbrev τ : Topo := Topo.v7x

variable {F : FTy → Type} [FloatOps F]
-- ==== Proof.Vocab.lean ====
/-
  What the precondition says: every word names a row of the table.
-/
module

public import proofs.«01_k».proof.Defs
public import proofs.«01_k».proof.Proof.Gen.Pre_in_vocab
public import Idealize.ShloMosaic.Lib.ReduceAll

@[expose] public section

namespace Cert.Proof.Vocab

open Cert.Pre_in_vocab Cert.Pre_in_vocab.Facts

open Idealize.ShloMosaic

/-- The precondition holds of four arrays only if every word of the first, read unsigned, is below 100000. -/
theorem words_lt {F : FTy → Type} [FloatOps F] (a0 : IVec S1024x20 32) (a1 a2 : FVec F S100000x64 .f32) (a3 : FVec F S100000 .f32)
    (h : fn a0 a1 a2 a3 = fun _ => 1#1) (i : S1024x20.Idx) : (a0 i).toNat < 100000 := by
  have one : ∀ p q : Bool, IntOp.andi (BitVec.ofBool p) (BitVec.ofBool q) = 1#1 → p = true ∧ q = true := by decide
  have : Subsingleton S_.Idx := ⟨fun x y => funext fun a => a.elim0⟩
  have e := Host.reduce_andi_all _ _ _ _ _ (congrFun h (Shape.Idx.first h_S_)) i
  have e' := one _ _ e
  simp only [broadcastInDim, constantI, BitVec.sle_eq_decide, BitVec.slt_eq_decide, decide_eq_true_eq, BitVec.toInt_eq_toNat_cond,
    BitVec.toNat_ofNat, Nat.reducePow, Nat.reduceMod] at e'
  omega

end Cert.Proof.Vocab
-- ==== Proof.KernelIdealTile.lean ====
/-
  One tile of the SparseCore call: what a tile computes, and that its program computes it.

  A tile copies the whole list of row numbers into its own memory, then serves two rows of the table. For a row it copies
  the row in, adds up the twenty entries each batch element names, multiplies by the constant, and copies the row of sums
  out. The values below are written over natural numbers, each reduced modulo the size of the array it indexes, so that
  no bound has to be carried in a term.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Proof.KernelIdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The launch's set-up -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × (URounds (GSem nD τ sig) Unit × Counters)

local notation "𝕄" => MT nD τ sig (HIx 1) (Elt F) ℕ UU ℕ

abbrev EH : Emb UH (MT nD τ sig (HIx 1) (Elt F) ℕ UU ℕ) := embL

/-! ## What a tile computes -/

/-- The position of a list of 20480 words a number names. -/
def pos20480 (n : ℕ) : S20480.Idx | 0 => ⟨n % 20480, Nat.mod_lt _ (by decide)⟩
/-- The position of a row of 100000 a number names. -/
def pos100000 (n : ℕ) : S100000.Idx | 0 => ⟨n % 100000, Nat.mod_lt _ (by decide)⟩
/-- The position of a row of 1024 a number names. -/
def pos1024 (n : ℕ) : S1024.Idx | 0 => ⟨n % 1024, Nat.mod_lt _ (by decide)⟩
/-- The position of the transposed table two numbers name. -/
def posTable (e n : ℕ) : S64x100000.Idx | 0 => ⟨e % 64, Nat.mod_lt _ (by decide)⟩ | 1 => ⟨n % 100000, Nat.mod_lt _ (by decide)⟩

/-- A position of a list of 20480 is the one its number names. -/
theorem pos20480_val (x : S20480.Idx) : pos20480 (x 0).val = x :=
  funext fun | 0 => Fin.ext (Nat.mod_eq_of_lt (x 0).isLt)
/-- A position of a row of 100000 is the one its number names. -/
theorem pos100000_val (x : S100000.Idx) : pos100000 (x 0).val = x :=
  funext fun | 0 => Fin.ext (Nat.mod_eq_of_lt (x 0).isLt)
/-- A position of a row of 1024 is the one its number names. -/
theorem pos1024_val (x : S1024.Idx) : pos1024 (x 0).val = x :=
  funext fun | 0 => Fin.ext (Nat.mod_eq_of_lt (x 0).isLt)
/-- A position of the transposed table is the one its two numbers name. -/
theorem posTable_val (x : S64x100000.Idx) : posTable (x 0).val (x 1).val = x :=
  funext fun | 0 => Fin.ext (Nat.mod_eq_of_lt (x 0).isLt) | 1 => Fin.ext (Nat.mod_eq_of_lt (x 1).isLt)

/-- Word `n` of the list, as a natural number. -/
def word (f1 : S20480.Idx → BitVec 32) (n : ℕ) : ℕ := (f1 (pos20480 n)).toNat

/-- Entry `n` of row `e` of the transposed table. -/
def entry (f2 : S64x100000.Idx → F .f32) (e n : ℕ) : F .f32 := f2 (posTable e n)

/-- The sum of row `e` over the words `0 … j` of batch element `b`, added from the left. -/
def acc (f2 : S64x100000.Idx → F .f32) (f1 : S20480.Idx → BitVec 32) (e : ℕ) : ℕ → ℕ → F .f32
  | 0, b => entry f2 e (word f1 b)
  | j + 1, b => FloatOps.addf (acc f2 f1 e j b) (entry f2 e (word f1 (1024 * (j + 1) + b)))

/-- The constant the kernel multiplies by. -/
def invc : F .f32 := Named.named κ "inv_ctx" 0x3D4CCCCD#32

/-- Row `e` of the hidden layer at batch element `b`. -/
def hid (f2 : S64x100000.Idx → F .f32) (f1 : S20480.Idx → BitVec 32) (e b : ℕ) : F .f32 := FloatOps.mulf (acc f2 f1 e 19 b) invc

/-- The hidden layer, as the whole array. -/
def hidBuf (f2 : S64x100000.Idx → F .f32) (f1 : S20480.Idx → BitVec 32) : S64x1024.Idx → F .f32 := fun x => hid f2 f1 (x 0).val (x 1).val

/-- Every word of the list names a row of the table. -/
def WordsOK (f1 : S20480.Idx → BitVec 32) : Prop := ∀ x, (f1 x).toNat < 100000

/-- The table's row as a tile holds it. -/
def rowBuf (f2 : S64x100000.Idx → F .f32) (e : ℕ) : S100000.Idx → F .f32 := fun x => entry f2 e (x 0).val

/-- A row of 1024 from a function of the batch element. -/
def vecBuf (g : ℕ → F .f32) : S1024.Idx → F .f32 := fun x => g (x 0).val

/-- The function that is `g` below `n` and `h` from `n` on. -/
def mixN (g h : ℕ → F .f32) (n : ℕ) : ℕ → F .f32 := fun b => if b < n then g b else h b

theorem mixN_zero (g h : ℕ → F .f32) : mixN g h 0 = h := funext fun b => if_neg (Nat.not_lt_zero b)
theorem mixN_ge (g h : ℕ → F .f32) {n b : ℕ} (hb : n ≤ b) : mixN g h n b = h b := if_neg (Nat.not_lt.mpr hb)
theorem vecBuf_eta (f : S1024.Idx → F .f32) : vecBuf (fun b => f (pos1024 b)) = f := funext fun x => congrArg f (pos1024_val x)
/-- Once all 1024 are done nothing of the old row is left. -/
theorem vecBuf_mixN_full (g h : ℕ → F .f32) : vecBuf (mixN g h 1024) = vecBuf g := funext fun x => if_pos (x 0).isLt

/-! ## The tile and its storage -/

section Tile

variable (d : Dev nD) (L : grid0.Coords)

/-- The tile's SparseCore. -/
abbrev cV : Fin τ.nSC := (L 0).castLE hcore0
/-- The tile's subcore. -/
abbrev jV : Fin τ.nSub := (L 1).castLE hsub0
/-- The tile's thread. -/
abbrev th : Thread nD τ := V d (cV L) (jV L)

local notation "v2V" => (Memref.whole Cert.KernelIdeal.main_v2_scv : Memref Cert.KernelIdeal.sig Kind.scVector Space.hbm Cert.KernelIdeal.S64x100000 EltTy.f32)
local notation "v1V" => (Memref.whole Cert.KernelIdeal.main_v1_scv : Memref Cert.KernelIdeal.sig Kind.scVector Space.hbm Cert.KernelIdeal.S20480 EltTy.i32)
local notation "v3V" => (Memref.whole Cert.KernelIdeal.main_v3_scv : Memref Cert.KernelIdeal.sig Kind.scVector Space.hbm Cert.KernelIdeal.S64x1024 EltTy.f32)
local notation "sV" => (Memref.whole Cert.KernelIdeal.cc0_scratch0 : Memref Cert.KernelIdeal.sig Kind.scVector Space.vmem Cert.KernelIdeal.S20480 EltTy.i32)
local notation "rV" => (Memref.whole Cert.KernelIdeal.cc0_scratch1 : Memref Cert.KernelIdeal.sig Kind.scVector Space.vmem Cert.KernelIdeal.S100000 EltTy.f32)
local notation "aV" => (Memref.whole Cert.KernelIdeal.cc0_scratch2 : Memref Cert.KernelIdeal.sig Kind.scVector Space.vmem Cert.KernelIdeal.S1024 EltTy.f32)

/-- The tile's copy of the list of words. -/
abbrev sAt (f : S20480.Idx → BitVec 32) : sProp 𝕄 := (sV).view.loc (th d L) ↦[Finset.univ]{fullShare} f
/-- The tile's copy of a table row. -/
abbrev rAt (f : S100000.Idx → F .f32) : sProp 𝕄 := (rV).view.loc (th d L) ↦[Finset.univ]{fullShare} f
/-- The tile's row of sums. -/
abbrev aAt (f : S1024.Idx → F .f32) : sProp 𝕄 := (aV).view.loc (th d L) ↦[Finset.univ]{fullShare} f

local notation "WP" => wp frame (wpE (defs₀ (F := F)) 𝒱₀ (th d L) none) Set.univ

/-! ## The steps of a group of sixteen lanes -/

/-- A load of sixteen lanes of the row of sums at offset `n`. -/
theorem wp_accLoad {B : Type} (g : ℕ → F .f32) {off : Fin 1 → ℕ} (n : ℕ) (hoff : off = ![n]) (inb)
    (hl) (k : Vec F S16 .f32 → Prog (TpuEff nD τ sig (Elt F) Λ₀ (.scVector (cV L) (jV L))) B) (Q : B → sProp 𝕄) :
    iprop(aAt d L (vecBuf g) ∗ (aAt d L (vecBuf g) -∗ WP (k fun x => g (n + (x 0).val)) Q))
      ⊢ WP (.op (.load aV (Rect.unit (s := S1024) off S16.size inb).toLoadRect hl) k) Q := by
  subst hoff
  iintro ⟨Ha, Hk⟩
  iapply (wp_load 𝒱₀ (th d L) none Set.univ (m := aV) (S := Finset.univ) (Finset.subset_univ _)) $$ Ha
  iintro Ha
  rw [show (aV).view.readAt (Elt F) (Rect.unit (s := S1024) ![n] S16.size inb).toLoadRect (vecBuf g) = (fun x => g (n + (x 0).val) : Vec F S16 .f32) from
    funext fun x => by
      rw [View.readAt_apply, View.read_whole]
      show g _ = g _
      rw [LoadRect.idx_apply]
      simp]
  iapply Hk
  iexact Ha

/-- Reading the row of sums at a lane of a group that starts at `n`: the entry is in the row. -/
theorem lane_lt {n : ℕ} (hn : n + 16 ≤ 1024) (x : S16.Idx) : n + (x 0).val < 1024 := by
  have := (x 0).isLt
  have h : S16.size 0 = 16 := rfl
  omega

/-- A store of sixteen lanes at offset `n` of a row already `g` below `n` makes it `g` below `n + 16`. -/
theorem wp_accStore {B : Type} (g h : ℕ → F .f32) {off : Fin 1 → ℕ} (n : ℕ) (hoff : off = ![n]) (inb) (w : Vec F S16 .f32)
    (hw : ∀ x : S16.Idx, w x = g (n + (x 0).val)) (hx) (hm)
    (k : PUnit → Prog (TpuEff nD τ sig (Elt F) Λ₀ (.scVector (cV L) (jV L))) B) (Q : B → sProp 𝕄) :
    iprop(aAt d L (vecBuf (mixN g h n)) ∗ (aAt d L (vecBuf (mixN g h (n + 16))) -∗ WP (k ⟨⟩) Q))
      ⊢ WP (.op (.store aV (Rect.unit (s := S1024) off S16.size inb) w Finset.univ hx hm) k) Q := by
  subst hoff
  iintro ⟨Ha, Hk⟩
  iapply (wp_store 𝒱₀ (th d L) none Set.univ (m := aV) (r := Rect.unit (s := S1024) ![n] S16.size inb) (Mk := Finset.univ) (S := Finset.univ) (Finset.subset_univ _)) $$ Ha
  iintro Ha
  rw [show ((aV).access (Rect.unit (s := S1024) ![n] S16.size inb)).write (Elt F) (vecBuf (mixN g h n)) w Finset.univ = vecBuf (mixN g h (n + 16)) from by
    funext y
    by_cases hy : y ∈ (Rect.unit (s := S1024) ![n] S16.size inb).set
    · obtain ⟨x, rfl⟩ := (Rect.unit (s := S1024) ![n] S16.size inb).exists_idx_of_mem hy
      refine (View.write_emb_of_mem (v := (aV).access (Rect.unit (s := S1024) ![n] S16.size inb)) (f := vecBuf (mixN g h n)) (w := w) (Finset.mem_univ x)).trans ?_
      rw [hw x]
      show _ = mixN g h (n + 16) _
      rw [LoadRect.idx_apply]
      have hlt : (x 0).val < 16 := (x 0).isLt
      simp only [mixN]
      rw [if_pos]
      · simp
      · simp; omega
    · refine (View.write_of_not_mem (v := (aV).access (Rect.unit (s := S1024) ![n] S16.size inb)) (vecBuf (mixN g h n)) w Finset.univ (fun hmem => hy ?_)).trans ?_
      · obtain ⟨x, _, rfl⟩ := Finset.mem_map.mp hmem
        exact (Rect.unit (s := S1024) ![n] S16.size inb).idx_mem x
      show mixN g h n (y 0).val = mixN g h (n + 16) (y 0).val
      have hy' : ¬(n ≤ (y 0).val ∧ (y 0).val < n + 16) := fun hc => hy (Rect.mem_set_unit.mpr fun | 0 => hc)
      simp only [mixN]
      by_cases h1 : (y 0).val < n
      · rw [if_pos h1, if_pos (by omega)]
      · rw [if_neg h1, if_neg (by omega)]]
  iapply Hk
  iexact Ha

/-- The load of sixteen words at offset `n`, the check that each names an entry, and the read of those entries. -/
theorem wp_gather {B : Type} (f2 : S64x100000.Idx → F .f32) (f1 : S20480.Idx → BitVec 32) (hf1 : WordsOK f1) (e : ℕ)
    {off : Fin 1 → ℕ} (n : ℕ) (hoff : off = ![n]) (inb) (hl)
    (chk : IVec S16 32 → Prop) (dec : ∀ v, Decidable (chk v)) (hchk : ∀ v : IVec S16 32, (∀ x, (v x).toNat < 100000) → chk v)
    (hidx : ∀ v : IVec S16 32, chk v → ∀ (a : Fin 1) (x : S16.Idx), ((![v] : Fin 1 → IVec S16 32) a x).toNat < S100000.size a) (hl')
    (k : Vec F S16 .f32 → Prog (TpuEff nD τ sig (Elt F) Λ₀ (.scVector (cV L) (jV L))) B) (Q : B → sProp 𝕄) :
    iprop(sAt d L f1 ∗ rAt d L (rowBuf f2 e) ∗ ((sAt d L f1 ∗ rAt d L (rowBuf f2 e)) -∗ WP (k fun x => entry f2 e (word f1 (n + (x 0).val))) Q))
      ⊢ WP (.op (.load sV (Rect.unit (s := S20480) off S16.size inb).toLoadRect hl) fun (v : IVec S16 32) =>
          .op (.assume (chk v) (dec v)) fun hw => SparseCore.vectorLoadIdx rV ![v] (hidx v hw.down) hl' >>= k) Q := by
  subst hoff
  have hn : n + 16 ≤ 20480 := by have := inb 0; simpa using this
  have hlt : ∀ x : S16.Idx, n + (x 0).val < 20480 := fun x => by
    have : (x 0).val < 16 := (x 0).isLt
    omega
  have hread : (sV).view.readAt (Elt F) (Rect.unit (s := S20480) ![n] S16.size inb).toLoadRect f1 = (fun x => f1 (pos20480 (n + (x 0).val)) : Vec F S16 .i32) :=
    funext fun x => by
      rw [View.readAt_apply, View.read_whole]
      refine congrArg f1 ((pos20480_val _).symm.trans (congrArg pos20480 ?_))
      rw [LoadRect.idx_apply]
      simp
  have hok : chk (fun x => f1 (pos20480 (n + (x 0).val))) := hchk _ fun x => hf1 _
  have hgot : loadIdx (((rV).access (Rect.whole S100000)).read (Elt F) (rowBuf f2 e)) ![(fun x => f1 (pos20480 (n + (x 0).val)) : IVec S16 32)]
      (hidx _ hok) = (fun x => entry f2 e (word f1 (n + (x 0).val)) : Vec F S16 .f32) :=
    funext fun x => (View.read_apply _ _).trans ((cast_eq _ _).trans (congrArg (entry f2 e)
      (show 0 + 1 * word f1 (n + (x 0).val) = word f1 (n + (x 0).val) by omega)))
  iintro ⟨Hs, Hr, Hk⟩
  iapply (wp_load 𝒱₀ (th d L) none Set.univ (m := sV) (S := Finset.univ) (Finset.subset_univ _)) $$ Hs
  iintro Hs
  rw [hread, wp_assume_of _ _ _ _ hok]
  iapply (SparseCore.wp_vectorLoadIdx 𝒱₀ (th d L) none Set.univ (base := rV) (S := Finset.univ) (q := fullShare) (Finset.subset_univ _)) $$ Hr
  iintro Hr
  iapply (Entails.of_eq (congrArg (fun v => WP (k v) Q) hgot.symm))
  iapply Hk $$ [Hs Hr]
  isplitl [Hs]
  · iexact Hs
  iexact Hr

/-- What a loop over a row holds: the words, the table's row, and the row of sums. -/
abbrev rowInv (f2 : S64x100000.Idx → F .f32) (f1 : S20480.Idx → BitVec 32) (e : ℕ) (g : ℕ → F .f32) : sProp 𝕄 :=
  iprop(sAt d L f1 ∗ rAt d L (rowBuf f2 e) ∗ aAt d L (vecBuf g))

/-- A check on sixteen words holds when each is below 100000. -/
theorem chk_of (v : IVec S16 32) (hv : ∀ x, (v x).toNat < 100000) (a : Fin 1) (x : S16.Idx) : ((![v] : Fin 1 → IVec S16 32) a x).toNat < S100000.size a := by
  obtain rfl := Fin.eq_zero a
  exact hv x

/-- A group that starts the sums: the sixteen entries word 0 names are stored at the group's lanes. -/
theorem wp_groupStart {B : Type} (f2 : S64x100000.Idx → F .f32) (f1 : S20480.Idx → BitVec 32) (hf1 : WordsOK f1) (e : ℕ) (h : ℕ → F .f32)
    {soff aoff : Fin 1 → ℕ} (n : ℕ) (hsoff : soff = ![n]) (haoff : aoff = ![n]) (sinb) (ainb) (hls) (hla) (hx) (hm)
    (chk : IVec S16 32 → Prop) (dec : ∀ v, Decidable (chk v)) (hchk : ∀ v : IVec S16 32, (∀ x, (v x).toNat < 100000) → chk v)
    (hidx : ∀ v : IVec S16 32, chk v → ∀ (a : Fin 1) (x : S16.Idx), ((![v] : Fin 1 → IVec S16 32) a x).toNat < S100000.size a) (hl')
    (k : PUnit → Prog (TpuEff nD τ sig (Elt F) Λ₀ (.scVector (cV L) (jV L))) B) (Q : B → sProp 𝕄) :
    iprop(rowInv d L f2 f1 e (mixN (acc f2 f1 e 0) h n) ∗ (rowInv d L f2 f1 e (mixN (acc f2 f1 e 0) h (n + 16)) -∗ WP (k ⟨⟩) Q))
      ⊢ WP (.op (.load sV (Rect.unit (s := S20480) soff S16.size sinb).toLoadRect hls) fun (v : IVec S16 32) =>
          .op (.assume (chk v) (dec v)) fun hw => SparseCore.vectorLoadIdx rV ![v] (hidx v hw.down) hl' >>= fun (g : Vec F S16 .f32) =>
          .op (.load aV (Rect.unit (s := S1024) aoff S16.size ainb).toLoadRect hla) fun _ =>
          .op (.store aV (Rect.unit (s := S1024) aoff S16.size ainb) g Finset.univ hx hm) k) Q := by
  iintro ⟨⟨Hs, Hr, Ha⟩, Hk⟩
  iapply (wp_gather d L f2 f1 hf1 e n hsoff sinb hls chk dec hchk hidx hl')
  isplitl [Hs]; · iexact Hs
  isplitl [Hr]; · iexact Hr
  iintro ⟨Hs, Hr⟩
  iapply (wp_accLoad d L _ n haoff ainb hla)
  isplitl [Ha]; · iexact Ha
  iintro Ha
  iapply (wp_accStore d L (acc f2 f1 e 0) h n haoff ainb _ (fun _ => rfl) hx hm)
  isplitl [Ha]; · iexact Ha
  iintro Ha
  iapply Hk
  isplitl [Hs]; · iexact Hs
  isplitl [Hr]; · iexact Hr
  iexact Ha

/-- A group that adds word `j + 1`: the sixteen entries it names are added to the group's lanes. -/
theorem wp_groupAdd {B : Type} (f2 : S64x100000.Idx → F .f32) (f1 : S20480.Idx → BitVec 32) (hf1 : WordsOK f1) (e j : ℕ)
    {soff aoff : Fin 1 → ℕ} (n n' : ℕ) (hsoff : soff = ![n']) (hn : n' = 1024 * (j + 1) + n) (haoff : aoff = ![n]) (sinb) (ainb) (hls) (hla) (hla') (hx) (hm)
    (chk : IVec S16 32 → Prop) (dec : ∀ v, Decidable (chk v)) (hchk : ∀ v : IVec S16 32, (∀ x, (v x).toNat < 100000) → chk v)
    (hidx : ∀ v : IVec S16 32, chk v → ∀ (a : Fin 1) (x : S16.Idx), ((![v] : Fin 1 → IVec S16 32) a x).toNat < S100000.size a) (hl')
    (pay : Vec F S16 .f32 → Vec F S16 .f32 → Vec F S16 .f32) (hpay : ∀ a b x, pay a b x = FloatOps.addf (b x) (a x))
    (k : PUnit → Prog (TpuEff nD τ sig (Elt F) Λ₀ (.scVector (cV L) (jV L))) B) (Q : B → sProp 𝕄) :
    iprop(rowInv d L f2 f1 e (mixN (acc f2 f1 e (j + 1)) (acc f2 f1 e j) n)
        ∗ (rowInv d L f2 f1 e (mixN (acc f2 f1 e (j + 1)) (acc f2 f1 e j) (n + 16)) -∗ WP (k ⟨⟩) Q))
      ⊢ WP (.op (.load sV (Rect.unit (s := S20480) soff S16.size sinb).toLoadRect hls) fun (v : IVec S16 32) =>
          .op (.assume (chk v) (dec v)) fun hw => SparseCore.vectorLoadIdx rV ![v] (hidx v hw.down) hl' >>= fun (g : Vec F S16 .f32) =>
          .op (.load aV (Rect.unit (s := S1024) aoff S16.size ainb).toLoadRect hla) fun (a : Vec F S16 .f32) =>
          .op (.load aV (Rect.unit (s := S1024) aoff S16.size ainb).toLoadRect hla') fun _ =>
          .op (.store aV (Rect.unit (s := S1024) aoff S16.size ainb) (pay g a) Finset.univ hx hm) k) Q := by
  subst hn
  iintro ⟨⟨Hs, Hr, Ha⟩, Hk⟩
  iapply (wp_gather d L f2 f1 hf1 e _ hsoff sinb hls chk dec hchk hidx hl')
  isplitl [Hs]; · iexact Hs
  isplitl [Hr]; · iexact Hr
  iintro ⟨Hs, Hr⟩
  iapply (wp_accLoad d L _ n haoff ainb hla)
  isplitl [Ha]; · iexact Ha
  iintro Ha
  iapply (wp_accLoad d L _ n haoff ainb hla')
  isplitl [Ha]; · iexact Ha
  iintro Ha
  iapply (wp_accStore d L (acc f2 f1 e (j + 1)) (acc f2 f1 e j) n haoff ainb _ (fun x => by
    rw [hpay, mixN_ge _ _ (Nat.le_add_right _ _), Nat.add_assoc]; rfl) hx hm)
  isplitl [Ha]; · iexact Ha
  iintro Ha
  iapply Hk
  isplitl [Hs]; · iexact Hs
  isplitl [Hr]; · iexact Hr
  iexact Ha

/-- A group that multiplies by the constant. -/
theorem wp_groupMul {B : Type} (f2 : S64x100000.Idx → F .f32) (f1 : S20480.Idx → BitVec 32) (e : ℕ)
    {aoff : Fin 1 → ℕ} (n : ℕ) (haoff : aoff = ![n]) (ainb) (hla) (hla') (hx) (hm)
    (pay : Vec F S16 .f32 → Vec F S16 .f32) (hpay : ∀ a x, pay a x = FloatOps.mulf (a x) invc)
    (k : PUnit → Prog (TpuEff nD τ sig (Elt F) Λ₀ (.scVector (cV L) (jV L))) B) (Q : B → sProp 𝕄) :
    iprop(rowInv d L f2 f1 e (mixN (hid f2 f1 e) (acc f2 f1 e 19) n)
        ∗ (rowInv d L f2 f1 e (mixN (hid f2 f1 e) (acc f2 f1 e 19) (n + 16)) -∗ WP (k ⟨⟩) Q))
      ⊢ WP (.op (.load aV (Rect.unit (s := S1024) aoff S16.size ainb).toLoadRect hla) fun (a : Vec F S16 .f32) =>
          .op (.load aV (Rect.unit (s := S1024) aoff S16.size ainb).toLoadRect hla') fun _ =>
          .op (.store aV (Rect.unit (s := S1024) aoff S16.size ainb) (pay a) Finset.univ hx hm) k) Q := by
  iintro ⟨⟨Hs, Hr, Ha⟩, Hk⟩
  iapply (wp_accLoad d L _ n haoff ainb hla)
  isplitl [Ha]; · iexact Ha
  iintro Ha
  iapply (wp_accLoad d L _ n haoff ainb hla')
  isplitl [Ha]; · iexact Ha
  iintro Ha
  iapply (wp_accStore d L (hid f2 f1 e) (acc f2 f1 e 19) n haoff ainb _ (fun x => by
    rw [hpay, mixN_ge _ _ (Nat.le_add_right _ _)]; rfl) hx hm)
  isplitl [Ha]; · iexact Ha
  iintro Ha
  iapply Hk
  isplitl [Hs]; · iexact Hs
  isplitl [Hr]; · iexact Hr
  iexact Ha

/-! ## The loops of one row -/

/-- The trip of the loop that starts the sums. -/
abbrev t2B := k0_t2_body (F := F) L v2V (Memref.isWhole_whole _) v1V (Memref.isWhole_whole _) v3V (Memref.isWhole_whole _) sV (Memref.isWhole_whole _)
  rV (Memref.isWhole_whole _) aV (Memref.isWhole_whole _) cc0_scratch3 cc0_scoped0 cc0_scoped1 cc0_scoped2

/-- The trip of the loop that adds one word. -/
abbrev t4B := k0_t4_body (F := F) L v2V (Memref.isWhole_whole _) v1V (Memref.isWhole_whole _) v3V (Memref.isWhole_whole _) sV (Memref.isWhole_whole _)
  rV (Memref.isWhole_whole _) aV (Memref.isWhole_whole _) cc0_scratch3 cc0_scoped0 cc0_scoped1 cc0_scoped2

/-- The trip of the loop over the words after the first. -/
abbrev t3B := k0_t3_body (F := F) L v2V (Memref.isWhole_whole _) v1V (Memref.isWhole_whole _) v3V (Memref.isWhole_whole _) sV (Memref.isWhole_whole _)
  rV (Memref.isWhole_whole _) aV (Memref.isWhole_whole _) cc0_scratch3 cc0_scoped0 cc0_scoped1 cc0_scoped2

/-- The trip of the loop that multiplies by the constant. -/
abbrev t5B := k0_t5_body (F := F) L v2V (Memref.isWhole_whole _) v1V (Memref.isWhole_whole _) v3V (Memref.isWhole_whole _) sV (Memref.isWhole_whole _)
  rV (Memref.isWhole_whole _) aV (Memref.isWhole_whole _) cc0_scratch3 cc0_scoped0 cc0_scoped1 cc0_scoped2

/-- The trip of the loop over a tile's two rows. -/
abbrev t1B := k0_t1_body (F := F) L v2V (Memref.isWhole_whole _) v1V (Memref.isWhole_whole _) v3V (Memref.isWhole_whole _) sV (Memref.isWhole_whole _)
  rV (Memref.isWhole_whole _) aV (Memref.isWhole_whole _) cc0_scratch3 cc0_scoped0 cc0_scoped1 cc0_scoped2

/-- One trip of the loop that starts the sums does 64 more lanes. -/
theorem t2_step (f2 : S64x100000.Idx → F .f32) (f1 : S20480.Idx → BitVec 32) (hf1 : WordsOK f1) (e : ℕ) (h : ℕ → F .f32) (k : Fin k0_t2_loop.trips) (u : Unit) :
    rowInv d L f2 f1 e (mixN (acc f2 f1 e 0) h (64 * k.val))
      ⊢ WP (t2B L k u) fun _ => rowInv d L f2 f1 e (mixN (acc f2 f1 e 0) h (64 * (k.val + 1))) := by
  unfold t2B k0_t2_body
  simp only [Prog.lift, Prog.bind_op, Prog.bind_ret, Prog.pure_eq_ret, Prog.bind_assoc]
  iintro H
  iapply (wp_groupStart d L f2 f1 hf1 e h _ (k0_off2_eq k) (k0_off3_eq k) _ _ _ _ _ _ k0_chk1 k0_chk1.dec chk_of k0_idx1_inb _)
  isplitl [H]; · iexact H
  iintro H
  iapply (wp_groupStart d L f2 f1 hf1 e h _ (k0_off4_eq k) (k0_off5_eq k) _ _ _ _ _ _ k0_chk2 k0_chk2.dec chk_of k0_idx2_inb _)
  isplitl [H]; · iexact H
  iintro H
  iapply (wp_groupStart d L f2 f1 hf1 e h _ (k0_off6_eq k) (k0_off7_eq k) _ _ _ _ _ _ k0_chk3 k0_chk3.dec chk_of k0_idx3_inb _)
  isplitl [H]; · iexact H
  iintro H
  iapply (wp_groupStart d L f2 f1 hf1 e h _ (k0_off8_eq k) (k0_off9_eq k) _ _ _ _ _ _ k0_chk4 k0_chk4.dec chk_of k0_idx4_inb _)
  isplitl [H]; · iexact H
  iintro H
  sl_step
  rw [show 64 * (k.val + 1) = 64 * k.val + 48 + 16 by omega]
  iexact H

/-- One trip of the loop that adds word `k3 + 1` does 64 more lanes. -/
theorem t4_step (f2 : S64x100000.Idx → F .f32) (f1 : S20480.Idx → BitVec 32) (hf1 : WordsOK f1) (e : ℕ) (k3 : Fin k0_t3_loop.trips) (v : BitVec 32)
    (k : Fin k0_t4_loop.trips) (u : Unit) :
    rowInv d L f2 f1 e (mixN (acc f2 f1 e (k3.val + 1)) (acc f2 f1 e k3.val) (64 * k.val))
      ⊢ WP (t4B L k3 v k u) fun _ => rowInv d L f2 f1 e (mixN (acc f2 f1 e (k3.val + 1)) (acc f2 f1 e k3.val) (64 * (k.val + 1))) := by
  unfold t4B k0_t4_body
  simp only [k0_part1_eq_skeleton]
  unfold k0_part1_skel
  simp only [Prog.lift, Prog.bind_op, Prog.bind_ret, Prog.pure_eq_ret, Prog.bind_assoc]
  iintro H
  iapply (wp_groupAdd d L f2 f1 hf1 e k3.val _ _ (k0_off10_eq k3 k) (by omega) (k0_off11_eq k) _ _ _ _ _ _ _ k0_chk5 k0_chk5.dec chk_of k0_idx5_inb _ k0_pay2 (fun _ _ _ => rfl))
  isplitl [H]; · iexact H
  iintro H
  iapply (wp_groupAdd d L f2 f1 hf1 e k3.val _ _ (k0_off12_eq k3 k) (by omega) (k0_off13_eq k) _ _ _ _ _ _ _ k0_chk6 k0_chk6.dec chk_of k0_idx6_inb _ k0_pay3 (fun _ _ _ => rfl))
  isplitl [H]; · iexact H
  iintro H
  iapply (wp_groupAdd d L f2 f1 hf1 e k3.val _ _ (k0_off14_eq k3 k) (by omega) (k0_off15_eq k) _ _ _ _ _ _ _ k0_chk7 k0_chk7.dec chk_of k0_idx7_inb _ k0_pay4 (fun _ _ _ => rfl))
  isplitl [H]; · iexact H
  iintro H
  iapply (wp_groupAdd d L f2 f1 hf1 e k3.val _ _ (k0_off16_eq k3 k) (by omega) (k0_off17_eq k) _ _ _ _ _ _ _ k0_chk8 k0_chk8.dec chk_of k0_idx8_inb _ k0_pay1 (fun _ _ _ => rfl))
  isplitl [H]; · iexact H
  iintro H
  sl_step
  rw [show 64 * (k.val + 1) = 64 * k.val + 48 + 16 by omega]
  iexact H

/-- One trip of the loop that multiplies by the constant does 64 more lanes. -/
theorem t5_step (f2 : S64x100000.Idx → F .f32) (f1 : S20480.Idx → BitVec 32) (e : ℕ) (k : Fin k0_t5_loop.trips) (u : Unit) :
    rowInv d L f2 f1 e (mixN (hid f2 f1 e) (acc f2 f1 e 19) (64 * k.val))
      ⊢ WP (t5B L k u) fun _ => rowInv d L f2 f1 e (mixN (hid f2 f1 e) (acc f2 f1 e 19) (64 * (k.val + 1))) := by
  unfold t5B k0_t5_body
  simp only [k0_part2_eq_skeleton]
  unfold k0_part2_skel
  simp only [Prog.lift, Prog.bind_op, Prog.bind_ret, Prog.pure_eq_ret, Prog.bind_assoc]
  iintro H
  iapply (wp_groupMul d L f2 f1 e (64 * k.val) (k0_off18_eq k 0) _ _ _ _ _ k0_pay5 (fun _ _ => rfl))
  isplitl [H]; · iexact H
  iintro H
  iapply (wp_groupMul d L f2 f1 e (64 * k.val + 16) (k0_off18_eq k 1) _ _ _ _ _ k0_pay6 (fun _ _ => rfl))
  isplitl [H]; · iexact H
  iintro H
  iapply (wp_groupMul d L f2 f1 e (64 * k.val + 32) (k0_off18_eq k 2) _ _ _ _ _ k0_pay7 (fun _ _ => rfl))
  isplitl [H]; · iexact H
  iintro H
  iapply (wp_groupMul d L f2 f1 e (64 * k.val + 48) (k0_off18_eq k 3) _ _ _ _ _ k0_pay8 (fun _ _ => rfl))
  isplitl [H]; · iexact H
  iintro H
  sl_step
  rw [show 64 * (k.val + 1) = 64 * k.val + 48 + 16 by omega]
  iexact H

/-- One trip of the loop over the words adds one word to the whole row. -/
theorem t3_step (f2 : S64x100000.Idx → F .f32) (f1 : S20480.Idx → BitVec 32) (hf1 : WordsOK f1) (e : ℕ) (k : Fin k0_t3_loop.trips) (u : Unit) :
    rowInv d L f2 f1 e (acc f2 f1 e k.val) ⊢ WP (t3B L k u) fun _ => rowInv d L f2 f1 e (acc f2 f1 e (k.val + 1)) := by
  unfold t3B k0_t3_body
  iintro H
  iapply (Scf.wp_for_bind _ _ _ _ _ _ _ _ _ (fun n _ => rowInv d L f2 f1 e (mixN (acc f2 f1 e (k.val + 1)) (acc f2 f1 e k.val) (64 * n)))
    (fun k4 u4 => t4_step d L f2 f1 hf1 e k _ k4 u4)) $$ [H]
  · rw [Nat.mul_zero, mixN_zero]; iexact H
  iintro %u4 H
  sl_step
  rw [show 64 * Scf.trips k0_t4_loop.lb k0_t4_loop.ub k0_t4_loop.st = 1024 by decide +kernel]
  unfold rowInv
  rw [vecBuf_mixN_full]
  iexact H

/-- The three loops of a row, at the head of a program: from the row copied in, whatever the row of sums held, to the row of the hidden layer. -/
theorem row_loops {B : Type} (f2 : S64x100000.Idx → F .f32) (f1 : S20480.Idx → BitVec 32) (hf1 : WordsOK f1) (e : ℕ) (f7 : S1024.Idx → F .f32)
    (k : Prog (TpuEff nD τ sig (Elt F) Λ₀ (.scVector (cV L) (jV L))) B) (Q : B → sProp 𝕄) :
    iprop((sAt d L f1 ∗ rAt d L (rowBuf f2 e) ∗ aAt d L f7) ∗ (rowInv d L f2 f1 e (hid f2 f1 e) -∗ WP k Q))
      ⊢ WP (Scf.Loop.for k0_t2_loop k0_t2_ok ⟨⟩ (t2B L) >>= fun _ => Scf.Loop.for k0_t3_loop k0_t3_ok ⟨⟩ (t3B L) >>= fun _ =>
          Scf.Loop.for k0_t5_loop k0_t5_ok ⟨⟩ (t5B L) >>= fun _ => k) Q := by
  rw [← vecBuf_eta f7]
  iintro ⟨H, Hk⟩
  iapply (Scf.wp_for_bind _ _ _ _ _ _ _ _ _ (fun n _ => rowInv d L f2 f1 e (mixN (acc f2 f1 e 0) (fun b => f7 (pos1024 b)) (64 * n)))
    (fun k u => t2_step d L f2 f1 hf1 e _ k u)) $$ [H]
  · rw [Nat.mul_zero, mixN_zero]; iexact H
  iintro %u2 H
  iapply (Scf.wp_for_bind _ _ _ _ _ _ _ _ _ (fun n _ => rowInv d L f2 f1 e (acc f2 f1 e n)) (fun k u => t3_step d L f2 f1 hf1 e k u)) $$ [H]
  · rw [show 64 * Scf.trips k0_t2_loop.lb k0_t2_loop.ub k0_t2_loop.st = 1024 by decide +kernel]
    unfold rowInv
    rw [vecBuf_mixN_full]
    iexact H
  iintro %u3 H
  iapply (Scf.wp_for_bind _ _ _ _ _ _ _ _ _ (fun n _ => rowInv d L f2 f1 e (mixN (hid f2 f1 e) (acc f2 f1 e 19) (64 * n))) (fun k u => t5_step d L f2 f1 e k u)) $$ [H]
  · rw [show Scf.trips k0_t3_loop.lb k0_t3_loop.ub k0_t3_loop.st = 19 by decide +kernel, Nat.mul_zero, mixN_zero]
    iexact H
  iintro %u5 H
  rw [show 64 * Scf.trips k0_t5_loop.lb k0_t5_loop.ub k0_t5_loop.st = 1024 by decide +kernel]
  iapply Hk
  unfold rowInv
  rw [vecBuf_mixN_full]
  iexact H

/-! ## The copies -/

/-- A row of 1 by 1024 read as a row of 1024: the two coordinates. -/
theorem reshape_row1024 (h : S1024.numel = S1x1024.numel) (x : S1024.Idx) :
    ((Shape.reshapeEquiv h x) 0).val = 0 ∧ ((Shape.reshapeEquiv h x) 1).val = (x 0).val := by
  have e : Shape.reshapeEquiv h x = (fun | 0 => ⟨0, Nat.one_pos⟩ | 1 => x 0 : S1x1024.Idx) :=
    Shape.reshapeEquiv_eq_of_rowMajor h (by
      rw [Shape.rowMajor_val_two, Shape.rowMajor_val_one]
      show (0 * 1024 + (x 0).val) = (x 0).val
      omega)
  rw [e]; exact ⟨rfl, rfl⟩

/-- A row of 1 by 100000 read as a row of 100000: the two coordinates. -/
theorem reshape_row100000 (h : S100000.numel = S1x100000.numel) (x : S100000.Idx) :
    ((Shape.reshapeEquiv h x) 0).val = 0 ∧ ((Shape.reshapeEquiv h x) 1).val = (x 0).val := by
  have e : Shape.reshapeEquiv h x = (fun | 0 => ⟨0, Nat.one_pos⟩ | 1 => x 0 : S1x100000.Idx) :=
    Shape.reshapeEquiv_eq_of_rowMajor h (by
      rw [Shape.rowMajor_val_two, Shape.rowMajor_val_one]
      show (0 * 100000 + (x 0).val) = (x 0).val
      omega)
  rw [e]; exact ⟨rfl, rfl⟩

/-- The row of the table a tile serves on trip `t`. -/
abbrev rowNo (t : ℕ) : ℕ := 2 * (L 1).val + (L 0).val + 32 * t

/-- The row of the transposed table of trip `t`, as the program names it. -/
abbrev v2Row (t : Fin k0_t1_loop.trips) : Memref sig .scVector .hbm S100000 .f32 :=
  ((v2V).slice (Rect.unit (s := S64x100000) (k0_off1 L t) S1x100000.size (k0_off1_inb L t)) (fun _ => rfl)).squeeze S100000 squeezes_S1x100000_S100000
/-- The row of the hidden layer of trip `t`, as the program names it. -/
abbrev v3Row (t : Fin k0_t1_loop.trips) : Memref sig .scVector .hbm S1024 .f32 :=
  ((v3V).slice (Rect.unit (s := S64x1024) (k0_off19 L t) S1x1024.size (k0_off19_inb L t)) (fun _ => rfl)).squeeze S1024 squeezes_S1x1024_S1024

/-- Where a position of the hidden layer's row of trip `t` lies in the whole layer. -/
theorem v3Row_emb (t : Fin k0_t1_loop.trips) (x : S1024.Idx) :
    (((v3Row L t).view.emb x : S64x1024.Idx) 0).val = rowNo L t.val ∧ (((v3Row L t).view.emb x : S64x1024.Idx) 1).val = (x 0).val := by
  have hr := reshape_row1024 (squeezes_S1x1024_S1024).numel_eq x
  constructor
  · show k0_off19 L t 0 + 1 * ((Shape.reshapeEquiv (squeezes_S1x1024_S1024).numel_eq x) 0).val = _
    rw [hr.1, k0_off19_eq]; simp [rowNo]
  · show k0_off19 L t 1 + 1 * ((Shape.reshapeEquiv (squeezes_S1x1024_S1024).numel_eq x) 1).val = _
    rw [hr.2, k0_off19_eq]; simp

/-- The table read through the row of trip `t` is that row. -/
theorem v2Row_read (t : Fin k0_t1_loop.trips) (f2 : S64x100000.Idx → F .f32) :
    (v2Row L t).view.read (Elt F) f2 = rowBuf f2 (rowNo L t.val) := by
  funext x
  refine (View.read_apply _ _).trans ((cast_eq _ _).trans ?_)
  have hr := reshape_row100000 (squeezes_S1x100000_S100000).numel_eq x
  show f2 _ = f2 (posTable _ _)
  refine congrArg f2 ((posTable_val _).symm.trans (congrArg₂ posTable ?_ ?_))
  · show k0_off1 L t 0 + 1 * ((Shape.reshapeEquiv (squeezes_S1x100000_S100000).numel_eq x) 0).val = _
    rw [hr.1, k0_off1_eq]; simp [rowNo]
  · show k0_off1 L t 1 + 1 * ((Shape.reshapeEquiv (squeezes_S1x100000_S100000).numel_eq x) 1).val = _
    rw [hr.2, k0_off1_eq]; simp

/-- A share of the transposed table. -/
abbrev v2At (q : PosShare TreeShare) (f2 : S64x100000.Idx → F .f32) : sProp 𝕄 := (v2V).view.loc (th d L) ↦[Finset.univ]{q} f2
/-- A share of the list of words. -/
abbrev v1At (q : PosShare TreeShare) (f1 : S20480.Idx → BitVec 32) : sProp 𝕄 := (v1V).view.loc (th d L) ↦[Finset.univ]{q} f1
/-- The hidden layer's row of trip `t`. -/
abbrev v3At (t : Fin k0_t1_loop.trips) (f : S64x1024.Idx → F .f32) : sProp 𝕄 := (v3Row L t).view.loc (th d L) ↦[(v3Row L t).view.set]{fullShare} f

/-- The row of trip `t` written with the row of the hidden layer holds the hidden layer there. -/
theorem v3At_written (t : Fin k0_t1_loop.trips) (f2 : S64x100000.Idx → F .f32) (f1 : S20480.Idx → BitVec 32) (f3 : S64x1024.Idx → F .f32) :
    v3At d L t ((v3Row L t).view.write (Elt F) f3 (vecBuf (hid f2 f1 (rowNo L t.val)) : Vec F S1024 .f32) Finset.univ) = v3At d L t (hidBuf f2 f1) := by
  refine pointsTo_congr fun y hy => ?_
  obtain ⟨x, _, rfl⟩ := Finset.mem_map.mp hy
  refine (View.write_emb_of_mem (Val := Elt F) (v := (v3Row L t).view) (f := f3) (w := vecBuf (hid f2 f1 (rowNo L t.val))) (Finset.mem_univ x)).trans ?_
  refine (cast_eq _ _).trans ?_
  have he := v3Row_emb L t x
  show hid f2 f1 _ _ = hid f2 f1 _ _
  rw [he.1, he.2]

/-! ## The tile's storage, taken out of what the launch deals it -/

/-- The semaphore of the copy of the words. -/
abbrev cellA : GSem nD τ sig := (th d L, .dma cc0_scoped0.sem)
/-- The semaphore of the copy of a table row. -/
abbrev cellB : GSem nD τ sig := (th d L, .dma cc0_scoped1.sem)
/-- The semaphore of the copy of a row of the hidden layer. -/
abbrev cellC : GSem nD τ sig := (th d L, .dma cc0_scoped2.sem)

/-- What is left of the tile's semaphores beside the three its copies use. -/
abbrev semsRest : sProp 𝕄 := bigSep ((((ownCells (sig := sig) (th d L)).erase (cellA d L)).erase (cellB d L)).erase (cellC d L)) fun g => semVal g 0

theorem ownSems0_V : (ownSems0 (Ix := HIx 1) (Val := Elt F) (Name := ℕ) (U := UU) (Lvl := ℕ) (th d L) : sProp 𝕄)
    = iprop(semVal (cellA d L) 0 ∗ semVal (cellB d L) 0 ∗ semVal (cellC d L) 0 ∗ semsRest d L) := by
  unfold SparseCore.Cfg.ownSems0
  rw [SparseCore.bigSep_erase' ((mem_ownCells (g := cellA d L)).mpr ⟨rfl, by show (SemLoc.dma cc0_scoped0.sem : SemLoc sig).isScoped .scVector = true; decide⟩),
    SparseCore.bigSep_erase' (Finset.mem_erase.mpr ⟨by simp [cellA, cellB]; decide,
      (mem_ownCells (g := cellB d L)).mpr ⟨rfl, by show (SemLoc.dma cc0_scoped1.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d L)).mpr ⟨rfl, by show (SemLoc.dma cc0_scoped2.sem : SemLoc sig).isScoped .scVector = true; decide⟩⟩⟩)]

/-- What is left of the tile's buffers beside its three. -/
abbrev bufsRest : sProp 𝕄 :=
  bigSep ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2))
    fun b => iprop(∃ f, ((d, b) : Loc nD τ sig) ↦{fullShare} f)

theorem ownBufs_V : (ownBufs (Ix := HIx 1) (Val := Elt F) (Name := ℕ) (U := UU) (Lvl := ℕ) (th d L) : sProp 𝕄)
    = iprop((∃ f, (th d L).loc cc0_scratch0 ↦{fullShare} f) ∗ (∃ f, (th d L).loc cc0_scratch1 ↦{fullShare} f)
        ∗ (∃ f, (th d L).loc cc0_scratch2 ↦{fullShare} f) ∗ bufsRest d L) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector (cV L) (jV L)) (b := (Proc.scVector (cV L) (jV L)).devRef cc0_scratch2) rfl⟩⟩)]

/-! ## The loop over a tile's rows -/

/-- The hidden layer's rows a tile serves, those of the first `n` trips done. -/
abbrev rowsAt (f2 : S64x100000.Idx → F .f32) (f1 : S20480.Idx → BitVec 32) (f3 : S64x1024.Idx → F .f32) (n : ℕ) : sProp 𝕄 :=
  bigSep Finset.univ fun t : Fin k0_t1_loop.trips => v3At d L t (if t.val < n then hidBuf f2 f1 else f3)

/-- What the loop over a tile's rows holds before trip `n`. -/
abbrev tileInv (q : PosShare TreeShare) (f2 : S64x100000.Idx → F .f32) (f1 : S20480.Idx → BitVec 32) (f3 : S64x1024.Idx → F .f32)
    (O : CellTallies nD τ sig (HIx 1)) (W : Waits sig (HIx 1)) (n : ℕ) : sProp 𝕄 :=
  iprop(Transfers.MayWaits (th d L) (default : HIx 1) O ∗ sAt d L f1 ∗ (∃ f, rAt d L f) ∗ (∃ f, aAt d L f) ∗ v2At d L q f2 ∗ rowsAt d L f2 f1 f3 n
    ∗ semVal (cellB d L) 0 ∗ semVal (cellC d L) 0 ∗ ∃ W', ⌜∀ p ∈ W', p ∈ W ∨ p.2 = none⌝ ∗ owes (th d L) O W')

/-- The copied table row, as the transfer leaves it. -/
theorem r_landed (t : Fin k0_t1_loop.trips) (f2 : S64x100000.Idx → F .f32) (fr w : S100000.Idx → F .f32)
    (hw : w = (v2Row L t).view.read (Elt F) f2) : (rV).view.write (Elt F) fr w Finset.univ = rowBuf f2 (rowNo L t.val) := by
  rw [hw, v2Row_read]; exact View.write_whole_univ _ _ _

/-- The copied row of sums, as the transfer leaves it: the read of a whole array is the array. -/
theorem a_landed (t : Fin k0_t1_loop.trips) (f3 : S64x1024.Idx → F .f32) (g w : S1024.Idx → F .f32) (hw : w = (aV).view.read (Elt F) g) :
    (v3Row L t).view.writes (Elt F) f3 [⟨Rect.whole S1024, w⟩] = (v3Row L t).view.write (Elt F) f3 (g : Vec F S1024 .f32) Finset.univ := by
  rw [hw, View.read_whole, ← View.write_univ_eq_writes_whole, View.writes_nil]

/-- The copied list of words, as the transfer leaves it. -/
theorem s_landed (f1 fs w : S20480.Idx → BitVec 32) (hw : w = (v1V).view.read (Elt F) f1) : (sV).view.write (Elt F) fs w Finset.univ = f1 := by
  rw [hw, View.read_whole]; exact View.write_whole_univ _ _ _

/-- One trip: the table's row in, its loops, the hidden layer's row out. -/
theorem t1_step (q : PosShare TreeShare) (f2 : S64x100000.Idx → F .f32) (f1 : S20480.Idx → BitVec 32) (hf1 : WordsOK f1) (f3 : S64x1024.Idx → F .f32)
    (O : CellTallies nD τ sig (HIx 1)) (W : Waits sig (HIx 1)) (k : Fin k0_t1_loop.trips) (u : Unit) :
    tileInv d L q f2 f1 f3 O W k.val ⊢ WP (t1B L k u) fun _ => tileInv d L q f2 f1 f3 O W (k.val + 1) := by
  unfold t1B k0_t1_body tileInv rowsAt
  rw [SparseCore.bigSep_erase' (Finset.mem_univ k), SparseCore.bigSep_erase' (Finset.mem_univ k), if_neg (Nat.lt_irrefl _), if_pos (Nat.lt_succ_self _)]
  iintro ⟨#Hmw, Hs, ⟨%fr, Hr⟩, ⟨%fa, Ha⟩, Hv2, ⟨Hrow, Hrows⟩, HB, HC, ⟨%W', %hW', HO⟩⟩
  sl_exec
  ihave Hr := (Entails.of_eq (congrArg (rAt d L) (r_landed L k f2 fr (t1_step.sl.dma0 L f2 k) rfl))) $$ Hr
  iapply (row_loops d L f2 f1 hf1 (rowNo L k.val) fa)
  isplitl [Hs Hr Ha]
  · isplitl [Hs]; · iexact Hs
    isplitl [Hr]; · iexact Hr
    iexact Ha
  iintro ⟨Hs, Hr, Ha⟩
  sl_exec
  ihave Hrow := (Entails.of_eq ((congrArg (v3At d L k) (a_landed L k f3 _ (t1_step.sl.dma0_1 L f2 f1 k) rfl)).trans (v3At_written d L k f2 f1 f3))) $$ Hrow
  sl_step
  isplitr; · iexact Hmw
  isplitl [Hs]; · iexact Hs
  isplitl [Hr]; · iexists _; iexact Hr
  isplitl [Ha]; · iexists _; iexact Ha
  isplitl [Hv2]; · iexact Hv2
  isplitl [Hrow Hrows]
  · isplitl [Hrow]; · iexact Hrow
    iapply (Entails.of_eq (bigSep_congr (Φ := fun t : Fin k0_t1_loop.trips => v3At d L t (if t.val < k.val then hidBuf f2 f1 else f3)) fun t ht => by
      have hne : t.val ≠ k.val := fun h => (Finset.mem_erase.mp ht).1 (Fin.ext h)
      by_cases h : t.val < k.val
      · rw [if_pos h, if_pos (by omega)]
      · rw [if_neg h, if_neg (by omega)]))
    iexact Hrows
  isplitl [HB]; · iexact HB
  isplitl [HC]; · iexact HC
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-- The whole tile: from its shares of the words and of the transposed table and its rows of the hidden layer, the rows hold the hidden layer. -/
theorem tile_body (q1 q2 : PosShare TreeShare) (f2 : S64x100000.Idx → F .f32) (f1 : S20480.Idx → BitVec 32) (hf1 : WordsOK f1) (f3 : S64x1024.Idx → F .f32)
    (hF : (K (F := F)).Facts) (O : CellTallies nD τ sig (HIx 1)) (W : Waits sig (HIx 1)) (hO : ∀ g, O g none = 0) :
    iprop(levAts (K (F := F)).L (K (F := F)).lev ∗ emp
        ∗ (v1At d L q1 f1 ∗ v2At d L q2 f2 ∗ bigSep Finset.univ fun t : Fin k0_t1_loop.trips => v3At d L t f3)
        ∗ scopedBufs (th d L) ∗ scopedSems0 (th d L) ∗ owes (th d L) O W)
      ⊢ WP (cc0_hidden_kernel L v2V (Memref.isWhole_whole _) v1V (Memref.isWhole_whole _) v3V (Memref.isWhole_whole _) sV (Memref.isWhole_whole _)
          rV (Memref.isWhole_whole _) aV (Memref.isWhole_whole _) cc0_scratch3 cc0_scoped0 cc0_scoped1 cc0_scoped2)
          fun _ => iprop((bigSep Finset.univ fun t : Fin k0_t1_loop.trips => v3At d L t (hidBuf f2 f1))
            ∗ scopedBufs (th d L) ∗ scopedSems0 (th d L)
            ∗ ∃ W', ⌜∀ p ∈ W', p ∈ W ∨ p.2 = none⌝ ∗ owes (th d L) O W') := by
  simp only [cc0_hidden_kernel_eq_skeleton]; unfold cc0_hidden_kernel_skel
  rw [(K (F := F)).scopedBufs_V hF d (cV L) (jV L), SparseCore.Cfg.scopedSems0_V (Val := Elt F) d (cV L) (jV L), ownSems0_V, ownBufs_V]
  iintro ⟨#Hlv, -, ⟨Hv1, Hv2, Hrows⟩, ⟨⟨%fs, Hs⟩, ⟨%fr, Hr⟩, ⟨%fa, Ha⟩, Hbufs⟩, ⟨HA, HB, HC, Hsems⟩, HO⟩
  ihave Hmw := (show levAts (K (F := F)).L (K (F := F)).lev ⊢ Transfers.MayWaits (th d L) (default : HIx 1) O from
    (K (F := F)).mayWaits_none (thr := th d L) hO) $$ Hlv
  ihave Hs := (Entails.of_eq (show ((th d L).loc cc0_scratch0 ↦{fullShare} fs : sProp 𝕄) = sAt d L fs from rfl)) $$ Hs
  sl_exec
  ihave Hs := (Entails.of_eq (congrArg (sAt d L) (s_landed (F := F) f1 fs (tile_body.sl.dma0 f1) rfl))) $$ Hs
  iapply (Scf.wp_for_bind _ _ _ _ _ _ _ _ _ (fun n _ => tileInv d L q2 f2 f1 f3 O W n) (fun k u => t1_step d L q2 f2 f1 hf1 f3 O W k u)) $$ [Hmw Hs Hr Ha Hv2 Hrows HB HC HO]
  · isplitl [Hmw]; · iexact Hmw
    isplitl [Hs]; · iexact Hs
    isplitl [Hr]; · iexists fr; iexact Hr
    isplitl [Ha]; · iexists fa; iexact Ha
    isplitl [Hv2]; · iexact Hv2
    isplitl [Hrows]; · iexact Hrows
    isplitl [HB]; · iexact HB
    isplitl [HC]; · iexact HC
    iexists _; isplitr
    swap; · iexact HO
    ipureintro; intro p hp
    rcases Finset.mem_insert.mp hp with hp | hp; · exact .inr (hp ▸ rfl)
    exact .inl hp
  iintro %u ⟨-, Hs, ⟨%fr, Hr⟩, ⟨%fa, Ha⟩, -, Hrows, HB, HC, HO⟩
  sl_step
  isplitl [Hrows]
  · iapply (Entails.of_eq (bigSep_congr fun (t : Fin k0_t1_loop.trips) _ =>
      congrArg (v3At d L t) (if_pos (c := t.val < Scf.trips k0_t1_loop.lb k0_t1_loop.ub k0_t1_loop.st) t.isLt)))
    iexact Hrows
  isplitl [Hs Hr Ha Hbufs]
  · isplitl [Hs]; · iexists _; iexact Hs
    isplitl [Hr]; · iexists _; iexact Hr
    isplitl [Ha]; · iexists _; iexact Ha
    iexact Hbufs
  isplitl [HA HB HC Hsems]
  · isplitl [HA]; · iexact HA
    isplitl [HB]; · iexact HB
    isplitl [HC]; · iexact HC
    iexact Hsems
  iexact HO

end Tile

end Cert.Proof.KernelIdealTile
-- ==== Proof.KernelIdealRegion.lean ====
/-
  The TensorCore call: a pipeline over 25 blocks of 4096 vocabulary rows.

  At each block the body multiplies the block of the output weights with the whole table of hidden values, adds the bias,
  and stores the block of the product. The last block runs past the end of the vocabulary: what lies there in the staging
  buffers is whatever they held, so the proof data say of the output's buffer only that it is the body's value at the
  blocks as they were fetched.
-/
module

public import proofs.«01_k».proof.Proof.KernelIdealTile
public import Idealize.ShloMosaic.Lib.Pipeline.RegionsLoop
public import Idealize.ShloMosaic.Lib.Pipeline.ArrRel
public import Idealize.ShloMosaic.Lib.VecWindow

@[expose] public section

set_option maxRecDepth 16384

noncomputable section

namespace Cert.Proof.KernelIdealRegion

open Cert.KernelIdeal Cert.KernelIdeal.Gen Cert.Proof.KernelIdealTile

open Idealize.ShloMosaic
open Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Dat Cfg Window cellOf)

variable {F : FTy → Type} [FloatOps F] [Named F]

local notation "𝕄" => MT nD τ sig (HIx 1) (Elt F) ℕ UU ℕ

/-! ## The body -/

/-- From its four staging buffers, the body leaves the first three as they were and the fourth at its value. -/
theorem body_run (c : Dev nD) (i : grid1.Coords)
    (M0 : Memref sig .tc .vmem S64x1024 .f32) (h0 : M0.IsWhole) (M1 : Memref sig .tc .vmem S64x4096 .f32) (h1 : M1.IsWhole)
    (M2 : Memref sig .tc .vmem S4096 .f32) (h2 : M2.IsWhole) (M3 : Memref sig .tc .vmem S4096x1024 .f32) (h3 : M3.IsWhole)
    (Y0 : S64x1024.Idx → Elt F .f32) (Y1 : S64x4096.Idx → Elt F .f32) (Y2 : S4096.Idx → Elt F .f32) (Y3 : S4096x1024.Idx → Elt F .f32)
    (Q : PUnit → sProp 𝕄) :
    iprop(owns (c : Thread nD τ) M0 fullShare Y0 ∗ owns (c : Thread nD τ) M1 fullShare Y1 ∗ owns (c : Thread nD τ) M2 fullShare Y2
        ∗ owns (c : Thread nD τ) M3 fullShare Y3
        ∗ (iprop(owns (c : Thread nD τ) M0 fullShare Y0 ∗ owns (c : Thread nD τ) M1 fullShare Y1 ∗ owns (c : Thread nD τ) M2 fullShare Y2
            ∗ owns (c : Thread nD τ) M3 fullShare (k1_pay1 Y2 Y1 Y0)) -∗ Q ⟨⟩))
      ⊢ wp frame (wpE (defs₀ (F := F)) 𝒱₀ (c : Thread nD τ) none) Set.univ (cc1__proj_body i M0 h0 M1 h1 M2 h2 M3 h3) Q := by
  rw [cc1__proj_body_eq_skeleton]
  unfold owns
  iintro ⟨⟨%f0, %e0, H0⟩, ⟨%f1, %e1, H1⟩, ⟨%f2, %e2, H2⟩, ⟨%f3, %e3, H3⟩, Hk⟩
  subst e0 e1 e2 e3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  rw [View.read_writes_full, View.readAt_full, View.readAt_full, View.readAt_full]

/-! ## The proof data -/

-- the contents of the TensorCore's buffers when the call is made
variable (V : (c : Dev nD) → (b : Ref sig .tc) → Buf (Elt F) ((c : Thread nD τ).loc b))

/-- The first point of the grid. -/
def t0 : Fin cfg1.N := ⟨0, by decide⟩

/-- What window `w`'s buffer holds when the block at point `t` has been copied into it, if it held `d` before. -/
def got (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (((cfg1.win w).blk t).view.read (Elt F) (V c (Pipeline.arrRef spec1 w)))

/-- The whole table of hidden values, as it stands in its staging buffer. -/
def table (c : Dev nD) : S64x1024.Idx → F .f32 :=
  ((cfg1.win 0).blk t0).view.read (Elt F) (V c (Pipeline.arrRef spec1 0))

/-- What the body may leave in the output's buffer at point `t`: its value at the blocks as they were fetched, whatever
    the buffers held beyond the part that the fetch fills. -/
def Left (c : Dev nD) (t : Fin cfg1.N) (X : S4096x1024.Idx → F .f32) : Prop :=
  ∃ (d1 : S64x4096.Idx → F .f32) (d2 : S4096.Idx → F .f32), X = k1_pay1 (got V c 2 t d2) (got V c 1 t d1) (table V c)

/-- The bound on the level of the waits recorded before the call. -/
abbrev lvB : ℕ := 8 * 1

/-- The proof data of the call. -/
def rdat (c : Dev nD) : RDat τ (Elt F) (HIx 1) ℕ UU ℕ cfg1 c where
  A w := V c (Pipeline.arrRef spec1 w)
  after w := match w with
    | ⟨0, _⟩ => fun _ Y X => X = Y
    | ⟨1, _⟩ => fun _ Y X => X = Y
    | ⟨2, _⟩ => fun _ Y X => X = Y
    | ⟨3, _⟩ => fun t _ X => Left V c t X
  Φ _ := BI.emp
  q _ := fullShare
  owed _ := 0
  recorded _ := {p | (K (F := F)).lev (T c, p.1) p.2 ≤ lvB}

/-- The first window's buffer holds the whole table at every point. -/
theorem finds_table (c : Dev nD) (t : Fin cfg1.N) (Y : (cfg1.win 0).block.Idx → Elt F (cfg1.win 0).elt)
    (h : (rdat V c).Finds 0 t Y) : Y = table V c := by
  induction hn : t.val generalizing t Y with
  | zero =>
    obtain rfl : t = t0 := Fin.ext hn
    obtain ⟨d, rfl⟩ := ((rdat V c).finds_of_fetch ((fetch1_0 t0).2 rfl) Y).1 h
    rfl
  | succ n ih =>
    have hlt : t.val < 25 := N_1 ▸ t.isLt
    have hf : (cfg1.win 0).fetch t = false := by
      rw [Bool.eq_false_iff]; intro e; have := (fetch1_0 t).1 e; omega
    rcases ((rdat V c).finds_of_pos hf (by omega) Y).1 h with h | ⟨Y', hY', e⟩
    · exact absurd h Bool.false_ne_true
    · rw [show Y = Y' from e]
      exact ih _ _ hY' (by simp only [hn]; omega)

/-- The body meets its obligation at every point. -/
theorem body_obligation (c : Dev nD) : (rdat V c).BodyObligation (defs₀ (F := F)) 𝒱₀ none Set.univ := by
  intro t Y hY
  have e0 := finds_table V c t (Y 0) (hY 0)
  obtain ⟨d1, e1⟩ := ((rdat V c).finds_of_fetch (fetch1_1 t) (Y 1)).1 (hY 1)
  obtain ⟨d2, e2⟩ := ((rdat V c).finds_of_fetch (fetch1_2 t) (Y 2)).1 (hY 2)
  rw [show defs₀ (F := F) .tc cfg1.body (cfg1.bodyArgs t (cfg1.slots t)) = bodyAt1 t from rfl]
  rw [bigSep_W1, bigSep_W1]
  rw [show (rdat V c).Φ t.castSucc = BI.emp from rfl, show (rdat V c).Φ t.succ = BI.emp from rfl,
    show (rdat V c).owesAt none t.succ = (rdat V c).owesAt none t.castSucc from rfl]
  iintro ⟨HΦ, HO, H0, H1, H2, H3⟩
  iapply (body_run c (grid1.coords t) (win1_0.stage (cfg1.slots t 0)) _ (win1_1.stage (cfg1.slots t 1)) _
    (win1_2.stage (cfg1.slots t 2)) _ (win1_3.stage (cfg1.slots t 3)) _ (Y 0) (Y 1) (Y 2) (Y 3) _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexists (Y 0); isplitr; · ipureintro; rfl
                  iexact H0
  isplitl [H1]; · iexists (Y 1); isplitr; · ipureintro; rfl
                  iexact H1
  isplitl [H2]; · iexists (Y 2); isplitr; · ipureintro; rfl
                  iexact H2
  iexists _; isplitr; swap; · iexact H3
  ipureintro
  exact ⟨d1, d2, by rw [e0, e1, e2]; rfl⟩

/-! ## The region -/

/-- The tables fetched before the call: none. -/
abbrev adm : (p : Fin 1) → (pcfgs (F := F) p).Adm := fun p => (cfgs p).toPCfg_adm

/-- The proof data of every pipeline of the program: there is one. -/
def rdats : (p : Fin 1) → (c : Dev nD) → RDat τ (Elt F) (HIx 1) ℕ UU ℕ (Pipeline.pin (pcfgs (F := F)) adm p) c
  | ⟨0, _⟩ => fun c => rdat V c

/-- A TensorCore buffer, held whole. -/
abbrev pt (c : Dev nD) (b : Ref sig .tc) (f : Buf (Elt F) ((c : Thread nD τ).loc b)) : sProp 𝕄 := (c : Thread nD τ).loc b ↦{fullShare} f

/-- What the TensorCore owes around the call: nothing, its waits being recorded at low levels. -/
abbrev idle (c : Dev nD) : sProp 𝕄 :=
  iprop(∃ W, ⌜(K (F := F)).WBelow (T c) W lvB⌝ ∗ owes (T c) (0 : CellTallies nD τ sig (HIx 1)) W)

/-- One array of the pipeline as its data hold it is the TensorCore's buffer held whole. -/
theorem arr_pt (c : Dev nD) (w : Fin cfg1.W) (f : Buf (Elt F) ((cfg1.win w).arr.view.loc (c : Thread nD τ))) :
    ((cfg1.win w).arr.view.loc (c : Thread nD τ) ↦[(cfg1.win w).arr.view.set]{(rdat V c).share w} f : sProp 𝕄)
      = pt c (Pipeline.arrRef spec1 w) f := by
  rw [show (cfg1.win w).arr.view.set = Finset.univ from (arr_whole1 w).set_eq_univ, show (rdat V c).share w = fullShare from by unfold RDat.share; split <;> rfl]

/-- An array at its contents on entry is its buffer at the buffer's contents. -/
theorem at_v3 (c : Dev nD) (f : Buf (Elt F) ((c : Thread nD τ).loc main_v3)) : (pt c (Pipeline.arrRef spec1 0) f : sProp 𝕄) = pt c main_v3 f := rfl
theorem at_v4 (c : Dev nD) (f : Buf (Elt F) ((c : Thread nD τ).loc main_v4)) : (pt c (Pipeline.arrRef spec1 1) f : sProp 𝕄) = pt c main_v4 f := rfl
theorem at_arg3 (c : Dev nD) (f : Buf (Elt F) ((c : Thread nD τ).loc main_arg3)) : (pt c (Pipeline.arrRef spec1 2) f : sProp 𝕄) = pt c main_arg3 f := rfl
theorem at_v5 (c : Dev nD) (f : Buf (Elt F) ((c : Thread nD τ).loc main_v5)) : (pt c (Pipeline.arrRef spec1 3) f : sProp 𝕄) = pt c main_v5 f := rfl

/-- The arrays at given contents are the four buffers held whole. -/
theorem arrays_eq (c : Dev nD) : (rdat V c).arrays (rdat V c).A
    = iprop(pt c main_v3 (V c main_v3) ∗ pt c main_v4 (V c main_v4) ∗ pt c main_arg3 (V c main_arg3) ∗ pt c main_v5 (V c main_v5)) := by
  unfold RDat.arrays
  rw [bigSep_W1]
  rw [arr_pt, arr_pt, arr_pt, arr_pt]
  exact congrArg₂ _ (at_v3 c _) (congrArg₂ _ (at_v4 c _) (congrArg₂ _ (at_arg3 c _) (at_v5 c _)))

/-- An input's array is at the end what it was on entry. -/
theorem in_end (c : Dev nD) (w : Fin cfg1.W) (h : (cfg1.win w).isOut = false) :
    iprop(∃ f, ⌜(rdat V c).ArrAt w cfg1.N f⌝
        ∗ (cfg1.win w).arr.view.loc (c : Thread nD τ) ↦[(cfg1.win w).arr.view.set]{(rdat V c).share w} f)
      ⊢ (pt c (Pipeline.arrRef spec1 w) ((rdat V c).A w) : sProp 𝕄) := by
  iintro ⟨%f, %hf, H⟩
  rw [(rdat V c).ArrAt_in w h] at hf
  subst hf
  iapply (Entails.of_eq (arr_pt V c w _)); iexact H

/-- The arrays at the end: the inputs as they were, the output at contents the write-backs can give. -/
theorem arraysAt_entails (c : Dev nD) : (rdat V c).arraysAt cfg1.N
    ⊢ iprop(pt c main_v3 (V c main_v3) ∗ pt c main_v4 (V c main_v4) ∗ pt c main_arg3 (V c main_arg3)
        ∗ ∃ f, ⌜(rdat V c).ArrAt 3 cfg1.N f⌝ ∗ pt c main_v5 f) := by
  unfold RDat.arraysAt
  rw [bigSep_W1]
  iintro ⟨H0, H1, H2, ⟨%f, %hf, H3⟩⟩
  isplitl [H0]; · iapply (in_end V c 0 rfl); iexact H0
  isplitl [H1]; · iapply (in_end V c 1 rfl); iexact H1
  isplitl [H2]; · iapply (in_end V c 2 rfl); iexact H2
  iexists f; isplitr; · ipureintro; exact hf
  iapply (Entails.of_eq (arr_pt V c 3 _)); iexact H3

-- the statements about the pinned family of pipelines unify with this program's only when types may be unfolded
set_option backward.isDefEq.respectTransparency.types false in
/-- The call: from its four arrays held whole it leaves the first three as they were, and the fourth at contents that 25
    write-backs of what the body may leave can give. -/
def reg : RDat.RegionSeg (pcfgs (F := F)) adm (rdats V) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := body_obligation V c
  hwaits := RDat.hwaits_of_owed_zero _ _ _ _ (K (F := F)).L (K (F := F)).lev 0 fun _ _ => rfl
  pre c := iprop(pt c main_v3 (V c main_v3) ∗ pt c main_v4 (V c main_v4) ∗ pt c main_arg3 (V c main_arg3) ∗ pt c main_v5 (V c main_v5) ∗ idle c)
  post c := iprop(pt c main_v3 (V c main_v3) ∗ pt c main_v4 (V c main_v4) ∗ pt c main_arg3 (V c main_arg3)
    ∗ (∃ f, ⌜(rdat V c).ArrAt 3 cfg1.N f⌝ ∗ pt c main_v5 f) ∗ idle c)
  X _ := BI.emp
  Y _ := BI.emp
  Z _ := BI.emp
  hentry c := by
    rw [Pipeline.ownSems0_none]
    iintro ⟨⟨H0, H1, H2, H3, HO⟩, -, -⟩
    imodintro
    isplitl [H0 H1 H2 H3]
    · iapply (show _ ⊢ (rdat V c).arrays (rdat V c).A from Entails.of_eq (arrays_eq V c).symm)
      isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · icases HO with ⟨%W, %hW, HO⟩
      iexists W; isplitr; · ipureintro; exact fun p hp => Or.inl (hW p hp)
      iexact HO
    isplitr; · iempintro
    iempintro
  hin c := by
    iintro -; iempintro
  hout c := by
    rw [Pipeline.ownSems0_none]
    iintro -
    isplitr; · iempintro
    isplitr; · iempintro
    iapply (show (BI.emp : sProp 𝕄) ⊢ Pipeline.scopedRest spec1 c from Entails.of_eq (scopedRest1_eq c).symm)
    iempintro
  hexit c := by
    iintro ⟨Ha, ⟨%W, %hW, HO⟩, -, -⟩
    imodintro
    ihave H := (show (rdats V 0 c).arraysAt (Pipeline.pin (pcfgs (F := F)) adm 0).N ⊢ _ from arraysAt_entails V c) $$ Ha
    icases H with ⟨H0, H1, H2, H3⟩
    isplitl [H0]; · iexact H0
    isplitl [H1]; · iexact H1
    isplitl [H2]; · iexact H2
    isplitl [H3]; · iexact H3
    iexists W; isplitr; swap; · iexact HO
    ipureintro
    intro p hp
    rcases hW hp with h | ⟨w, s, rfl⟩
    · exact h
    · exact Nat.zero_le _

end Cert.Proof.KernelIdealRegion

end
-- ==== Proof.KernelIdealLaunch.lean ====
/-
  The SparseCore call as the launch deals it out, and the whole program's run.

  The words and the table go to every tile, each at its share; the hidden layer goes row by row, a tile having the rows
  its two trips write. After the call the rows join into the layer held whole. Around the two calls stand five transposes
  and reshapes, each over two whole buffers.
-/
module

public import proofs.«01_k».proof.Proof.KernelIdealRegion

@[expose] public section

set_option maxRecDepth 16384

noncomputable section

namespace Cert.Proof.KernelIdealLaunch

open Cert.KernelIdeal Cert.KernelIdeal.Gen Cert.Proof.KernelIdealTile Cert.Proof.KernelIdealRegion

open Idealize.ShloMosaic
open Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)
open Idealize.ShloMosaic.Tactic

variable {F : FTy → Type} [FloatOps F] [Named F]

local notation "𝕄" => MT nD τ sig (HIx 1) (Elt F) ℕ UU ℕ

/-! ## The tiles' places -/

/-- The place of a tile in the grid. -/
def place (c : Fin (grid0.bound 0)) (s : Fin (grid0.bound 1)) : grid0.Coords :=
  fun | 0 => c | 1 => s | ⟨_ + 2, h⟩ => absurd h (Nat.not_lt.2 (Nat.le_add_left _ _))

/-- A position of the hidden layer lies in the row of trip `t` when its row number says so. -/
theorem mem_v3Row (L : grid0.Coords) (t : Fin k0_t1_loop.trips) (x : S64x1024.Idx) :
    x ∈ (v3Row L t).view.set ↔ (x 0).val = rowNo L t.val := by
  constructor
  · intro h
    obtain ⟨y, _, rfl⟩ := Finset.mem_map.mp h
    exact (v3Row_emb L t y).1
  · intro h
    have hy := v3Row_emb L t (pos1024 (x 1).val)
    refine Finset.mem_map.mpr ⟨pos1024 (x 1).val, Finset.mem_univ _, ?_⟩
    refine funext fun | 0 => Fin.ext (hy.1.trans h.symm) | 1 => Fin.ext (hy.2.trans ?_)
    exact Nat.mod_eq_of_lt (x 1).isLt

/-- A tile's trip: its SparseCore, its subcore, the trip. -/
abbrev Trip : Type := Fin 2 × Fin 16 × Fin k0_t1_loop.trips

/-- The positions of the hidden layer a tile's trip writes. -/
def rowSet (p : Trip) : Finset S64x1024.Idx := (v3Row (place p.1 p.2.1) p.2.2).view.set

theorem mem_rowSet (p : Trip) (x : S64x1024.Idx) : x ∈ rowSet p ↔ (x 0).val = 2 * p.2.1.val + p.1.val + 32 * p.2.2.val :=
  mem_v3Row _ _ x

theorem rowSet_disjoint : ∀ p ∈ (Finset.univ : Finset Trip), ∀ p' ∈ (Finset.univ : Finset Trip), p ≠ p' → Disjoint (rowSet p) (rowSet p') := by
  rintro ⟨c, i, t⟩ - ⟨c', i', t'⟩ - hne
  refine Finset.disjoint_left.mpr fun x h h' => hne ?_
  rw [mem_rowSet] at h h'
  have := h.symm.trans h'
  have hc := c.isLt; have hc' := c'.isLt; have hi := i.isLt; have hi' := i'.isLt
  simp only at this
  refine Prod.ext (Fin.ext ?_) (Prod.ext (Fin.ext ?_) (Fin.ext ?_)) <;> simp only <;> omega

theorem rowSet_cover : (Finset.univ : Finset Trip).biUnion rowSet = Finset.univ := by
  refine Finset.eq_univ_iff_forall.mpr fun x => Finset.mem_biUnion.mpr ?_
  have hx : (x 0).val < 64 := (x 0).isLt
  have ht : k0_t1_loop.trips = 2 := by decide
  refine ⟨(⟨(x 0).val % 2, by omega⟩, ⟨(x 0).val / 2 % 16, by omega⟩, ⟨(x 0).val / 32, by omega⟩), Finset.mem_univ _, ?_⟩
  rw [mem_rowSet]
  simp only
  omega

/-- The hidden layer held whole is its rows, each held by the trip that writes it. -/
theorem v3_rows (d : Dev nD) (f : S64x1024.Idx → F .f32) :
    (pt d main_v3 f : sProp 𝕄) = bigSep Finset.univ fun c : Fin 2 => bigSep Finset.univ fun i : Fin 16 =>
      bigSep Finset.univ fun t : Fin k0_t1_loop.trips => v3At d (place c i) t f := by
  have h := pointsTo_biUnion (Val := Elt F) (Ix := HIx 1) (Name := ℕ) (U := UU) (Lvl := ℕ) (ℓ := (d.tc : Thread nD τ).loc main_v3) (q := fullShare) (f := f)
    Finset.univ rowSet rowSet_disjoint
  rw [rowSet_cover, bigSep_univ_prod] at h
  refine h.trans (bigSep_congr fun c _ => ?_)
  rw [bigSep_univ_prod]
  rfl

/-- The share of the words and of the table a tile reads at. -/
def tileShare (c : Fin 2) (i : Fin 16) : PosShare TreeShare := shareTok (shareTok fullShare 2 c) 16 i

/-- A buffer held whole is dealt to the tiles, each at its share. -/
theorem deal (d : Dev nD) (b : Ref sig .tc) (f : Buf (Elt F) ((d : Thread nD τ).loc b)) :
    (pt d b f : sProp 𝕄) ⊢ bigSep Finset.univ fun c : Fin 2 => bigSep Finset.univ fun i : Fin 16 =>
      (d : Thread nD τ).loc b ↦{tileShare c i} f := by
  refine ((pointsTo_toks_split fullShare 2).trans sep_elim_right).trans (bigSep_mono fun c _ => ?_)
  exact (pointsTo_toks_split (shareTok fullShare 2 c) 16).trans sep_elim_right

/-! ## What the handshakes carry -/

section Payload

variable (f1 : Dev nD → S20480.Idx → BitVec 32) (f2 : Dev nD → S64x100000.Idx → F .f32) (f3 : Dev nD → S64x1024.Idx → F .f32)

/-- What a tile starts from: the words and the table at its share, its rows of the layer. -/
abbrev tileIn (d : Dev nD) (c : Fin 2) (i : Fin 16) : sProp 𝕄 :=
  iprop(v1At d (place c i) (tileShare c i) (f1 d) ∗ v2At d (place c i) (tileShare c i) (f2 d)
    ∗ bigSep Finset.univ fun t : Fin k0_t1_loop.trips => v3At d (place c i) t (f3 d))

/-- What a tile ends with: its rows, at the hidden layer. -/
abbrev tileOut (d : Dev nD) (c : Fin 2) (i : Fin 16) : sProp 𝕄 :=
  bigSep Finset.univ fun t : Fin k0_t1_loop.trips => v3At d (place c i) t (hidBuf (f2 d) (f1 d))

/-- The payloads of the call's handshakes. -/
def P : (K (F := F)).Pay (nD := nD) (Val := Elt F) (Name := ℕ) (U := UU) where
  st q d c := match q with | 0 => bigSep Finset.univ fun i : Fin 16 => tileIn f1 f2 f3 d c i
  dn q d c := match q with | 0 => bigSep Finset.univ fun i : Fin 16 => tileOut f1 f2 d c i
  go q d c i := match q with | 0 => tileIn f1 f2 f3 d c i
  td q d c i := match q with | 0 => tileOut f1 f2 d c i
  x := fun _ _ => iprop(emp)

instance : (P f1 f2 f3).IsStorable where
  st q d c := match q with | 0 => (inferInstance : BI.Storable (upEmb : UEmb _ 𝕄) (bigSep Finset.univ fun i : Fin 16 => tileIn f1 f2 f3 d c i))
  dn q d c := match q with | 0 => (inferInstance : BI.Storable (upEmb : UEmb _ 𝕄) (bigSep Finset.univ fun i : Fin 16 => tileOut f1 f2 d c i))
  go q d c i := match q with | 0 => (inferInstance : BI.Storable (upEmb : UEmb _ 𝕄) (tileIn f1 f2 f3 d c i))
  td q d c i := match q with | 0 => (inferInstance : BI.Storable (upEmb : UEmb _ 𝕄) (tileOut f1 f2 d c i))

/-- What a SparseCore is given is what its tiles are given, and what they end with is what it hands back. -/
theorem vecSplit : (K (F := F)).VecSplit' (P f1 f2 f3) 0 := by
  intro d c
  show (bigSep Finset.univ fun i : Fin 16 => tileIn f1 f2 f3 d c i) ⊢ |={Set.univ}=> iprop(
      (bigSep Finset.univ fun i : Fin 16 => tileIn f1 f2 f3 d c i)
      ∗ ((bigSep Finset.univ fun i : Fin 16 => tileOut f1 f2 d c i) -∗ (bigSep Finset.univ fun i : Fin 16 => tileOut f1 f2 d c i)))
  iintro H; imodintro
  isplitl [H]; · iexact H
  iintro H; iexact H

/-- The body of a tile of the call is the printed kernel at the tile's place. -/
theorem defs₀_vector (c : Fin τ.nSC) (s : Fin τ.nSub) :
    defs₀ (F := F) (.scVector c s) 0 ()
      = SparseCore.onTile hcore0 hsub0 (fun c s => cc0_hidden_kernel (place c s)
          (Memref.whole main_v2_scv) (Memref.isWhole_whole _) (Memref.whole main_v1_scv) (Memref.isWhole_whole _) (Memref.whole main_v3_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scoped0 cc0_scoped1 cc0_scoped2) ⟨⟩ c s := rfl

/-- Waits recorded at no stage are waits recorded at no stage or at the call's. -/
theorem widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile meets its obligation. -/
theorem tileObl (hF : (K (F := F)).Facts) (hf1 : ∀ d, WordsOK (f1 d)) : (K (F := F)).TileObl (D (F := F)) 𝒱 (P f1 f2 f3) v₀ 0 := by
  intro d c i O W hO _ _
  simp only [show (P f1 f2 f3).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (place ⟨_, hci.1⟩ ⟨_, hci.2⟩) _ _ (f2 d) (f1 d) (hf1 d) (f3 d) hF O W hO).trans (wp_mono frame _ _ fun _ => widen)

/-- What the call takes from the TensorCore: the words, the table and the layer, each held whole. -/
theorem st_of_whole (d : Dev nD) : iprop(pt d main_v1 (f1 d) ∗ pt d main_v2 (f2 d) ∗ pt d main_v3 (f3 d))
    ⊢ (bigSep Finset.univ fun c : Fin ((K (F := F)).nCore 0) => (P f1 f2 f3).st 0 d c : sProp 𝕄) := by
  show _ ⊢ (bigSep Finset.univ fun c : Fin 2 => bigSep Finset.univ fun i : Fin 16 => tileIn f1 f2 f3 d c i : sProp 𝕄)
  simp only [tileIn, bigSep_sep']
  exact BIClass.sep_mono (deal d main_v1 (f1 d)) (BIClass.sep_mono (deal d main_v2 (f2 d)) (Entails.of_eq (v3_rows d (f3 d))))

/-- What the call gives back: the hidden layer held whole. -/
theorem dn_to_whole (d : Dev nD) : (bigSep Finset.univ fun c : Fin ((K (F := F)).nCore 0) => (P f1 f2 f3).dn 0 d c : sProp 𝕄)
    ⊢ pt d main_v3 (hidBuf (f2 d) (f1 d)) :=
  Entails.of_eq (v3_rows d (hidBuf (f2 d) (f1 d))).symm

end Payload

/-! ## The transposes and the reshape around the calls -/

/-- An operation that reads one whole buffer and writes another. -/
theorem wp_op (d : Dev nD) (W : Valuation τ sig (Elt F)) (op : HloOp τ sig (Elt F)) (a b : Ref sig .tc) (hab : a ≠ b)
    (hb : op.bufs = {(a : DevRef τ sig), (b : DevRef τ sig)}) (hw : op.writes = {(b : DevRef τ sig)}) (hf : op.fresh = ∅)
    (fa : Buf (Elt F) ((d : Thread nD τ).loc a)) (fb g : Buf (Elt F) ((d : Thread nD τ).loc b))
    (hg : ∀ V : Valuation τ sig (Elt F), V a = fa → op.result V b = g) (Q : PUnit → sProp 𝕄) :
    iprop(boundary (SparseCore.T d) ∗ pt d a fa ∗ pt d b fb ∗ (iprop(boundary (SparseCore.T d) ∗ pt d a fa ∗ pt d b g) -∗ Q ⟨⟩))
      ⊢ wp frame (wpE ((K (F := F)).defs (D (F := F))) 𝒱 (SparseCore.T d) none) Set.univ (hlo rfl op fun _ => .ret ⟨⟩) Q := by
  have hne : (a : DevRef τ sig) ≠ (b : DevRef τ sig) := StableHlo.devRef_ne_of_ne hab
  obtain ⟨V, hVa, hVb⟩ : ∃ V : Valuation τ sig (Elt F), V a = fa ∧ V b = fb :=
    ⟨Function.update (Function.update W (a : DevRef τ sig) fa) (b : DevRef τ sig) fb,
      (Function.update_of_ne hne _ _).trans (Function.update_self _ _ _), Function.update_self _ _ _⟩
  have held_two : ∀ V' : Valuation τ sig (Elt F), (bigSep op.bufs fun r => ((d, r) : Loc nD τ sig) ↦{fullShare} V' r : sProp 𝕄) = iprop(pt d a (V' a) ∗ pt d b (V' b)) := by
    intro V'
    rw [hb, SparseCore.bigSep_insert' (by simpa using hne), bigSep_singleton]
  have hra : op.result V a = fa := (op.result_of_not_mem V (by rw [hw]; simpa using hne)).trans hVa
  iintro ⟨Hb, Ha, Hbb, Hk⟩
  iapply (wp_hlo 𝒱 (SparseCore.T d) none Set.univ (op := op) (q := fun _ => fullShare) (F := V) (fun _ _ => rfl) hf) $$ [Hb Ha Hbb]
  · isplitl [Hb]; · iexact Hb
    iapply (Entails.of_eq (held_two V).symm)
    rw [hVa, hVb]
    isplitl [Ha]; · iexact Ha
    iexact Hbb
  iintro ⟨Hb, H⟩
  ihave H := (Entails.of_eq (held_two (op.result V))) $$ H
  rw [hra, hg V hVa]
  icases H with ⟨Ha, Hbb⟩
  rw [wp_ret]
  imodintro
  iapply Hk
  isplitl [Hb]; · iexact Hb
  isplitl [Ha]; · iexact Ha
  iexact Hbb

/-! ## The launch element -/

/-- Where the pipeline's protocol lives in the ghost state. -/
abbrev EP : Emb (URounds (GSem nD τ sig) Unit) (MT nD τ sig (HIx 1) (Elt F) ℕ UU ℕ) :=
  (Emb.inl : Emb (URounds (GSem nD τ sig) Unit) (URounds (GSem nD τ sig) Unit × Counters)).trans embR

/-- The launch element of the handshakes and of the pipeline's staging cells. -/
def u₀ : UU := (initOf (K (F := F)).hsCells (K (F := F)).hsToks,
  (initOf (Pipeline.cells (nD := nD) (Pipeline.pin (pcfgs (F := F)) adm) cellOf_inj) (Pipeline.launchToks (nD := nD) (Pipeline.pin (pcfgs (F := F)) adm) cellOf_inj), 1))

/-- What a TensorCore holds of the pipeline's protocol at the launch. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The launch element gives the handshakes their ghost state and every TensorCore its part of the pipeline's. -/
theorem hu₀ (f1 : Dev nD → S20480.Idx → BitVec 32) (f2 : Dev nD → S64x100000.Idx → F .f32) (f3 : Dev nD → S64x1024.Idx → F .f32) :
    (ownU (u₀ (F := F)) : sProp 𝕄)
      ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P f1 f2 f3).x q thr) := by
  unfold u₀
  iintro Hu
  ihave H := (ownU_pair (initOf (K (F := F)).hsCells (K (F := F)).hsToks) _) $$ Hu
  icases H with ⟨HH, HR⟩
  ihave HR := (own_pair_emb embR _ _) $$ HR
  icases HR with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · iapply (show (bigSep Finset.univ fun d : Dev nD => bigSep Finset.univ fun p : Fin 1 => Pipeline.cellsGhost (Pipeline.pin (pcfgs (F := F)) adm) EP p d : sProp 𝕄)
        ⊢ bigSep Finset.univ fun d : Dev nD => Pipeline.cellsGhost (Pipeline.pin (pcfgs (F := F)) adm) EP 0 d from
        Entails.of_eq (bigSep_congr fun d _ => bigSep_univ_of_subsingleton (0 : Fin 1)))
      iexact Hg
    iapply (show (bigSep Finset.univ fun d : Dev nD => bigSep Finset.univ fun p : Fin 1 => Pipeline.toksInit (Pipeline.pin (pcfgs (F := F)) adm) EP p d : sProp 𝕄)
      ⊢ bigSep Finset.univ fun d : Dev nD => Pipeline.toksInit (Pipeline.pin (pcfgs (F := F)) adm) EP 0 d from
      Entails.of_eq (bigSep_congr fun d _ => bigSep_univ_of_subsingleton (0 : Fin 1)))
    iexact Ht
  rw [show (bigSep Finset.univ fun thr : Thread nD τ => bigSep Finset.univ fun q : Fin 1 => (P (F := F) f1 f2 f3).x q thr) = bigSep Finset.univ fun _ => iprop(emp) from
    bigSep_congr fun _ _ => bigSep_univ_of_subsingleton (0 : Fin 1),
    show (bigSep (Finset.univ : Finset (Thread nD τ)) fun _ => (iprop(emp) : sProp 𝕄)) = iprop(emp) from bigSep_emp_const _]
  iempintro

/-! ## The TensorCore call inside the program -/

/-- After the one SparseCore call the TensorCore owes nothing more. -/
theorem Otc_one (d : Dev nD) : (K (F := F)).Otc d 1 = 0 := by
  unfold SparseCore.Cfg.Otc
  refine Finset.sum_eq_zero fun q _ => if_neg ?_
  have := q.isLt
  omega

/-- Its state after the call holds what the pipeline asks of what it owes, and takes it back. -/
theorem tcSt_idle (d : Dev nD) : (K (F := F)).tcSt EH d 1 ⊢ (iprop(idle d ∗ (idle d -∗ (K (F := F)).tcSt EH d 1)) : sProp 𝕄) := by
  unfold SparseCore.Cfg.tcSt
  rw [Otc_one]
  iintro ⟨HO, H⟩
  isplitl [HO]; · iexact HO
  iintro HO
  isplitl [HO]; · iexact HO
  iexact H

/-- What the TensorCore call takes. -/
theorem reg_pre (V : (c : Dev nD) → (b : Ref sig .tc) → Buf (Elt F) ((c : Thread nD τ).loc b)) (d : Dev nD) :
    (reg V).pre d = (iprop(pt d main_v3 (V d main_v3) ∗ pt d main_v4 (V d main_v4) ∗ pt d main_arg3 (V d main_arg3) ∗ pt d main_v5 (V d main_v5) ∗ idle d) : sProp 𝕄) := rfl
/-- What it gives back. -/
theorem reg_post (V : (c : Dev nD) → (b : Ref sig .tc) → Buf (Elt F) ((c : Thread nD τ).loc b)) (d : Dev nD) :
    (reg V).post d = (iprop(pt d main_v3 (V d main_v3) ∗ pt d main_v4 (V d main_v4) ∗ pt d main_arg3 (V d main_arg3)
      ∗ (∃ f, ⌜(rdat V d).ArrAt 3 cfg1.N f⌝ ∗ pt d main_v5 f) ∗ idle d) : sProp 𝕄) := rfl

/-- The call from the program: its buffers in, the output's contents as the pipeline can leave them. -/
theorem wp_region [∀ e, Nonempty (Elt F e)] (V : (c : Dev nD) → (b : Ref sig .tc) → Buf (Elt F) ((c : Thread nD τ).loc b)) (d : Dev nD) (Q : PUnit → sProp 𝕄) :
    iprop(boundary (SparseCore.T d)
        ∗ iprop(pt d main_v3 (V d main_v3) ∗ pt d main_v4 (V d main_v4) ∗ pt d main_arg3 (V d main_arg3) ∗ pt d main_v5 (V d main_v5) ∗ idle d)
        ∗ levAts (K (F := F)).L (K (F := F)).lev ∗ G (F := F) d
        ∗ (iprop(boundary (SparseCore.T d) ∗ pt d main_v3 (V d main_v3) ∗ pt d main_v4 (V d main_v4) ∗ pt d main_arg3 (V d main_arg3)
            ∗ (∃ f, ⌜(rdat V d).ArrAt 3 cfg1.N f⌝ ∗ pt d main_v5 f) ∗ idle d) -∗ Q ⟨⟩))
      ⊢ wp frame (wpE ((K (F := F)).defs (D (F := F))) 𝒱 (SparseCore.T d) none) Set.univ
          (Prog.lift (.customCall (SparseCore.inner (Pipeline.entry (P := Fin 1) 0)) ())) Q := by
  have lift := (K (F := F)).wp_liftProg (D (F := F)) 𝒱 (SparseCore.T d) Set.univ none (.op (.customCall (Pipeline.entry (P := Fin 1) 0) ()) .ret) Q
  have call := Pipeline.RDat.RegionSeg.wp (pcfgs (F := F)) adm (rdats V) none cellOf_inj EP defs₀ 𝒱₀ (K (F := F)).L (K (F := F)).lev (reg V) d none
    (fun _ h => nomatch h) .ret Q
  refine BIBase.Entails.trans ?_ lift
  refine BIBase.Entails.trans ?_ call
  iintro ⟨Hb, Hpre, Hlv, ⟨Hg, Ht⟩, Hk⟩
  isplitl [Hk]
  · iintro H
    rw [wp_ret]
    imodintro
    iapply Hk; iapply (Entails.of_eq (congrArg (fun R : sProp 𝕄 => iprop(boundary (SparseCore.T d) ∗ R)) (reg_post V d))); iexact H
  isplitl [Hb]; · iexact Hb
  isplitl [Hpre]; · iapply (Entails.of_eq (reg_pre V d).symm); iexact Hpre
  isplitl [Hlv]; · iexact Hlv
  isplitl [Hg]; · iexact Hg
  iexact Ht

/-! ## @main on the TensorCore -/

section Main

variable (m : (ℓ : Loc nD τ sig) → Buf (Elt F) ℓ) (ρ : Dev nD → PrngReg)

/-- The words as the SparseCore call reads them. -/
def words (d : Dev nD) : S20480.Idx → BitVec 32 :=
  shapeCast S20480 (transpose S20x1024 [1, 0] (m ((d : Thread nD τ).loc main_arg0)) transposes_S1024x20_S20x1024_1_0) shapeCasts_S20x1024_S20480
/-- The table as the SparseCore call reads it. -/
def tbl (d : Dev nD) : S64x100000.Idx → F .f32 := transpose S64x100000 [1, 0] (m ((d : Thread nD τ).loc main_arg1)) transposes_S100000x64_S64x100000_1_0
/-- The output weights as the TensorCore call reads them. -/
def wgt (d : Dev nD) : S64x100000.Idx → F .f32 := transpose S64x100000 [1, 0] (m ((d : Thread nD τ).loc main_arg2)) transposes_S100000x64_S64x100000_1_0
/-- The hidden layer as the SparseCore call leaves it. -/
def hidden (d : Dev nD) : S64x1024.Idx → F .f32 := hidBuf (tbl m d) (words m d)

/-- The TensorCore's buffers when its call is made. -/
def before (c : Dev nD) (b : Ref sig .tc) : Buf (Elt F) ((c : Thread nD τ).loc b) :=
  Function.update (Function.update (fun r : DevRef τ sig => m (c, r)) (main_v3 : DevRef τ sig) (hidden m c)) (main_v4 : DevRef τ sig) (wgt m c) (b : DevRef τ sig)

theorem before_v3 (c : Dev nD) : before m c main_v3 = hidden m c :=
  (Function.update_of_ne (StableHlo.devRef_ne_of_ne (by decide)) _ _).trans (Function.update_self _ _ _)
theorem before_v4 (c : Dev nD) : before m c main_v4 = wgt m c := Function.update_self _ _ _
theorem before_other (c : Dev nD) (b : Ref sig .tc) (h3 : b ≠ main_v3) (h4 : b ≠ main_v4) : before m c b = m ((c : Thread nD τ).loc b) :=
  (Function.update_of_ne (StableHlo.devRef_ne_of_ne h4) _ _).trans (Function.update_of_ne (StableHlo.devRef_ne_of_ne h3) _ _)

/-- The unscoped buffers of a TensorCore, one by one. -/
theorem unscopedBufs_eq (d : Dev nD) (W : (b : Ref sig .tc) → Buf (Elt F) ((d : Thread nD τ).loc b)) :
    (unscopedBufs d W : sProp 𝕄) = iprop(pt d main_arg0 (W main_arg0) ∗ pt d main_arg1 (W main_arg1) ∗ pt d main_arg2 (W main_arg2) ∗ pt d main_arg3 (W main_arg3)
      ∗ pt d main_v0 (W main_v0) ∗ pt d main_v1 (W main_v1) ∗ pt d main_v2 (W main_v2) ∗ pt d main_v3 (W main_v3) ∗ pt d main_v4 (W main_v4)
      ∗ pt d main_v5 (W main_v5) ∗ pt d main_v6 (W main_v6)) := by
  unfold unscopedBufs
  rw [show (Finset.univ.filter fun b : Ref sig .tc => ¬ b.isScoped)
      = {main_arg0, main_arg1, main_arg2, main_arg3, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The payloads of this program's call. -/
abbrev PM : (K (F := F)).Pay (nD := nD) (Val := Elt F) (Name := ℕ) (U := UU) :=
  P (words m) (tbl m) (fun d => m ((d : Thread nD τ).loc main_v3))

/-- What a contents of the output buffer must satisfy: it is the transpose of what the TensorCore call can leave. -/
def OutOK (d : Dev nD) (g : S1024x100000.Idx → F .f32) : Prop :=
  ∃ f : S100000x1024.Idx → F .f32, (rdat (before m) d).ArrAt 3 cfg1.N f ∧ g = transpose S1024x100000 [1, 0] f transposes_S100000x1024_S1024x100000_1_0

/-- What the TensorCore keeps to the end: the arguments as they were, the output. -/
abbrev FIN (d : Dev nD) : sProp 𝕄 :=
  iprop(pt d main_arg0 (m ((d : Thread nD τ).loc main_arg0)) ∗ pt d main_arg1 (m ((d : Thread nD τ).loc main_arg1))
    ∗ pt d main_arg2 (m ((d : Thread nD τ).loc main_arg2)) ∗ pt d main_arg3 (m ((d : Thread nD τ).loc main_arg3))
    ∗ ∃ g, ⌜OutOK m d g⌝ ∗ pt d main_v6 g)

/-- The program on a TensorCore. -/
theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha0, Ha1, Ha2, Ha3, Hv0, Hv1, Hv2, Hv3, Hv4, Hv5, Hv6⟩, Hts, -⟩, HG⟩
  ihave Hlv := ((K (F := F)).ctx_levAts (EH := EH) (P := PM m) κ) $$ Hctx
  iapply (wp_op d (fun r => m (d, r)) _ main_arg0 main_v0 (by decide) rfl rfl rfl _ _
    (transpose S20x1024 [1, 0] (m ((d : Thread nD τ).loc main_arg0)) transposes_S1024x20_S20x1024_1_0)
    (fun V h => (StableHlo.unary_result ..).trans (congrArg (transpose S20x1024 [1, 0] · transposes_S1024x20_S20x1024_1_0) h)) _)
  isplitl [Hb]; · iexact Hb
  isplitl [Ha0]; · iexact Ha0
  isplitl [Hv0]; · iexact Hv0
  iintro ⟨Hb, Ha0, Hv0⟩
  iapply (wp_op d (fun r => m (d, r)) _ main_v0 main_v1 (by decide) rfl rfl rfl _ _ (words m d)
    (fun V h => (StableHlo.reshape_result ..).trans (congrArg (shapeCast S20480 · shapeCasts_S20x1024_S20480) h)) _)
  isplitl [Hb]; · iexact Hb
  isplitl [Hv0]; · iexact Hv0
  isplitl [Hv1]; · iexact Hv1
  iintro ⟨Hb, Hv0, Hv1⟩
  iapply (wp_op d (fun r => m (d, r)) _ main_arg1 main_v2 (by decide) rfl rfl rfl _ _ (tbl m d)
    (fun V h => (StableHlo.unary_result ..).trans (congrArg (transpose S64x100000 [1, 0] · transposes_S100000x64_S64x100000_1_0) h)) _)
  isplitl [Hb]; · iexact Hb
  isplitl [Ha1]; · iexact Ha1
  isplitl [Hv2]; · iexact Hv2
  iintro ⟨Hb, Ha1, Hv2⟩
  iapply ((K (F := F)).wp_run (D (F := F)) 𝒱 (EH := EH) (P := PM m) κ d 0)
  isplitr; · iexact Hctx
  isplitl [Hst]; · iexact Hst
  isplitl [Hv1 Hv2 Hv3]
  · iapply (st_of_whole (words m) (tbl m) (fun d => m ((d : Thread nD τ).loc main_v3)) d)
    isplitl [Hv1]; · iexact Hv1
    isplitl [Hv2]; · iexact Hv2
    iexact Hv3
  iintro ⟨Hst, Hdn⟩
  ihave Hv3 := (dn_to_whole (words m) (tbl m) (fun d => m ((d : Thread nD τ).loc main_v3)) d) $$ Hdn
  iapply (wp_op d (fun r => m (d, r)) _ main_arg2 main_v4 (by decide) rfl rfl rfl _ _ (wgt m d)
    (fun V h => (StableHlo.unary_result ..).trans (congrArg (transpose S64x100000 [1, 0] · transposes_S100000x64_S64x100000_1_0) h)) _)
  isplitl [Hb]; · iexact Hb
  isplitl [Ha2]; · iexact Ha2
  isplitl [Hv4]; · iexact Hv4
  iintro ⟨Hb, Ha2, Hv4⟩
  ihave Hst := (show (K (F := F)).tcSt EH d ((0 : Fin 1).val + 1) ⊢ _ from tcSt_idle d) $$ Hst
  icases Hst with ⟨HO, Hst⟩
  iapply (wp_region (before m) d _)
  isplitl [Hb]; · iexact Hb
  isplitl [Hv3 Hv4 Ha3 Hv5 HO]
  · isplitl [Hv3]; · iapply (Entails.of_eq (congrArg (pt d main_v3) (before_v3 m d)).symm); iexact Hv3
    isplitl [Hv4]; · iapply (Entails.of_eq (congrArg (pt d main_v4) (before_v4 m d)).symm); iexact Hv4
    isplitl [Ha3]; · iapply (Entails.of_eq (congrArg (pt d main_arg3) (before_other m d main_arg3 (by decide) (by decide))).symm); iexact Ha3
    isplitl [Hv5]; · iapply (Entails.of_eq (congrArg (pt d main_v5) (before_other m d main_v5 (by decide) (by decide))).symm); iexact Hv5
    iexact HO
  isplitl [Hlv]; · iexact Hlv
  isplitl [HG]; · iexact HG
  iintro ⟨Hb, ⟨-, -, Ha3, ⟨%f, %hf, Hv5⟩, HO⟩⟩
  ihave Ha3 := (Entails.of_eq (congrArg (pt d main_arg3) (before_other m d main_arg3 (by decide) (by decide)))) $$ Ha3
  ihave Hst := Hst $$ HO
  iapply (wp_op d (fun r => m (d, r)) _ main_v5 main_v6 (by decide) rfl rfl rfl _ _ (transpose S1024x100000 [1, 0] f transposes_S100000x1024_S1024x100000_1_0)
    (fun V h => (StableHlo.unary_result ..).trans (congrArg (transpose S1024x100000 [1, 0] · transposes_S100000x1024_S1024x100000_1_0) h)) _)
  isplitl [Hb]; · iexact Hb
  isplitl [Hv5]; · iexact Hv5
  isplitl [Hv6]; · iexact Hv6
  iintro ⟨Hb, Hv5, Hv6⟩
  imodintro
  isplitl [Hst]; · iexact Hst
  isplitr [Hb Hts]
  · isplitl [Ha0]; · iexact Ha0
    isplitl [Ha1]; · iexact Ha1
    isplitl [Ha2]; · iexact Ha2
    isplitl [Ha3]; · iexact Ha3
    iexists _; isplitr; swap; · iexact Hv6
    ipureintro; exact ⟨f, hf, rfl⟩
  isplitl [Hb] <;> iassumption

/-- What the end state says of device `d`: the arguments unchanged, the output as the calls leave it. -/
def fq (d : Dev nD) (s' : Phys nD τ sig (Elt F)) : Prop :=
  s'.mem.mem ((d : Thread nD τ).loc main_arg0) = m ((d : Thread nD τ).loc main_arg0)
  ∧ s'.mem.mem ((d : Thread nD τ).loc main_arg1) = m ((d : Thread nD τ).loc main_arg1)
  ∧ s'.mem.mem ((d : Thread nD τ).loc main_arg2) = m ((d : Thread nD τ).loc main_arg2)
  ∧ s'.mem.mem ((d : Thread nD τ).loc main_arg3) = m ((d : Thread nD τ).loc main_arg3)
  ∧ OutOK m d (s'.mem.mem ((d : Thread nD τ).loc main_v6))

/-- A buffer held whole says what the end state's memory holds there. -/
theorem pt_agree (d : Dev nD) (b : Ref sig .tc) (f : Buf (Elt F) ((d : Thread nD τ).loc b)) (s' : Phys nD τ sig (Elt F)) :
    iprop(pt d b f ∗ SI s') ⊢ (iprop(⌜s'.mem.mem ((d : Thread nD τ).loc b) = f⌝ ∗ SI s') : sProp 𝕄) := by
  iintro ⟨H, HSI⟩
  ihave H := (persistent_entails_right (SI_pointsTo_agree (st := s') (ℓ := (d : Thread nD τ).loc b) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, ⟨%g, %hg, H6⟩⟩, HSI⟩
  ihave H := (pt_agree d main_arg0 _ s') $$ [H0 HSI]
  · isplitl [H0] <;> iassumption
  icases H with ⟨%h0, HSI⟩
  ihave H := (pt_agree d main_arg1 _ s') $$ [H1 HSI]
  · isplitl [H1] <;> iassumption
  icases H with ⟨%h1, HSI⟩
  ihave H := (pt_agree d main_arg2 _ s') $$ [H2 HSI]
  · isplitl [H2] <;> iassumption
  icases H with ⟨%h2, HSI⟩
  ihave H := (pt_agree d main_arg3 _ s') $$ [H3 HSI]
  · isplitl [H3] <;> iassumption
  icases H with ⟨%h3, HSI⟩
  ihave H := (pt_agree d main_v6 _ s') $$ [H6 HSI]
  · isplitl [H6] <;> iassumption
  icases H with ⟨%h6, -⟩
  ipureintro
  exact ⟨h0, h1, h2, h3, h6.symm ▸ hg⟩

/-- The program's run: the arguments unchanged, the output as the calls leave it, no semaphore raised. -/
theorem run_main [∀ e, Nonempty (Elt F e)] (hw : ∀ d, WordsOK (words m d)) :
    θ_run (Cert.KernelIdeal.defs (F := F)) (Cert.KernelIdeal.threads (F := F)) ⟨m, fun _ => 0, ρ⟩ fun r =>
      (∀ d : Dev nD, r.2.mem ((d : Thread nD τ).loc main_arg0) = m ((d : Thread nD τ).loc main_arg0)
        ∧ r.2.mem ((d : Thread nD τ).loc main_arg1) = m ((d : Thread nD τ).loc main_arg1)
        ∧ r.2.mem ((d : Thread nD τ).loc main_arg2) = m ((d : Thread nD τ).loc main_arg2)
        ∧ r.2.mem ((d : Thread nD τ).loc main_arg3) = m ((d : Thread nD τ).loc main_arg3)
        ∧ OutOK m d (r.2.mem ((d : Thread nD τ).loc main_v6)))
      ∧ r.2.sem = fun _ => 0 :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ facts hw)
    (fun q _ => match q with | 0 => SparseCore.Cfg.VecSplit.of_plain (vecSplit _ _ _))
    m ρ main (fun d => G (F := F) d) (FIN m) (u₀ (F := F)) (sep_elim_left.trans (hu₀ _ _ _)) (hmain m ρ) (fq m) (hfin m) _ (fun _ h hz => ⟨h, hz⟩)

end Main

end Cert.Proof.KernelIdealLaunch

end
-- ==== Proof.Frames.lean ====
/-
  The frames: each program runs, leaves its arguments as they were and raises no semaphore.
-/
module

public import proofs.«01_k».proof.Proof.Vocab
public import proofs.«01_k».proof.Proof.KernelLaunch
public import proofs.«01_k».proof.Proof.KernelIdealLaunch
public import proofs.«01_k».proof.Proof.Gen.ReferenceIdeal.Run

@[expose] public section

noncomputable section

namespace Cert.Proof.Frames

open Idealize.ShloMosaic Idealize.SL.Sem

/-- Under the precondition the words the kernel reads name rows of the table. -/
theorem kernel_words (m : (ℓ : Loc Cert.Kernel.nD Cert.Kernel.τ Cert.Kernel.sig) → Buf (Elt Bits) ℓ) (h : Cert.Pre_Kernel m) (d : Dev Cert.Kernel.nD) :
    KernelTile.WordsOK (KernelLaunch.words m d) := fun _ => Vocab.words_lt _ _ _ _ (h d) _

/-- The same for the kernel read over the extended reals. -/
theorem kernelIdeal_words (m : (ℓ : Loc Cert.KernelIdeal.nD Cert.KernelIdeal.τ Cert.KernelIdeal.sig) → Buf (Elt Ideal) ℓ) (h : Cert.Pre_KernelIdeal m)
    (d : Dev Cert.KernelIdeal.nD) : KernelIdealTile.WordsOK (KernelIdealLaunch.words m d) := fun _ => Vocab.words_lt _ _ _ _ (h d) _

/-- The kernel's frame. -/
theorem kernel : Cert.quiescent_Kernel := fun m g h =>
  (θ_run Cert.Kernel.defs _ _).mono (fun _ r => ⟨fun c => ⟨(r.1 c).1, (r.1 c).2.1, (r.1 c).2.2.1, (r.1 c).2.2.2.1⟩, r.2⟩)
    (KernelLaunch.run_main (F := Bits) m g (kernel_words m h))

/-- The frame of the kernel read over the extended reals. -/
theorem kernelIdeal : Cert.quiescent_KernelIdeal := fun m g h =>
  (θ_run Cert.KernelIdeal.defs _ _).mono (fun _ r => ⟨fun c => ⟨(r.1 c).1, (r.1 c).2.1, (r.1 c).2.2.1, (r.1 c).2.2.2.1⟩, r.2⟩)
    (KernelIdealLaunch.run_main (F := Ideal) m g (kernelIdeal_words m h))

/-- The reference's frame, from every memory. -/
theorem reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The reference's frame, from the memories the precondition allows. -/
theorem reference_in_vocab : Cert.quiescent_ReferenceIdeal_pre_in_vocab := fun m g _ => reference m g trivial

/-- The rounded constant that the idealization gives its exact value is one twentieth. -/
theorem preserves : Cert.preserves_Kernel_KernelIdeal := IdealRules.named_const.statement Cert.KernelIdeal.κ "inv_ctx" _ _ _ rfl

end Cert.Proof.Frames

end
-- ==== Proof.KernelIdealLogits.lean ====
/-
  What the projection writes: every entry of its result is the product of a row of the weights with a column of hidden values,
  plus that row's bias.
-/
module

public import proofs.«01_k».proof.Proof.KernelIdealLaunch
public import Idealize.ShloMosaic.Lib.Pointwise
public import Idealize.ShloMosaic.Lib.Pipeline.ArrRel

@[expose] public section

noncomputable section

namespace Cert.Proof.KernelIdealLogits

open Cert.KernelIdeal Cert.KernelIdeal.Gen
open Idealize.ShloMosaic Idealize.ShloMosaic.TcCoe Idealize.ShloMosaic.Pipeline
open Cert.Proof.KernelIdealRegion

/-- The body's value at an entry: the sum of sixty-four products, plus the bias. -/
theorem payload_apply (v0 : Vec Ideal S4096 .f32) (v4 : Vec Ideal S64x4096 .f32) (v6 : Vec Ideal S64x1024 .f32) (r : Fin 4096) (l : Fin 1024) :
    k1_pay1 v0 v4 v6 (ix2 r l) = (∑ e : Fin 64, v4 (ix2 e r) * v6 (ix2 e l)) + v0 (ix1 r) := by
  pointwise [k1_pay1]
  rw [Fin.sum_univ_one]

/-- The projection of a whole array of hidden values. -/
def logits (w : S64x100000.Idx → Ideal .f32) (h : S64x1024.Idx → Ideal .f32) (b : S100000.Idx → Ideal .f32) : S100000x1024.Idx → Ideal .f32 :=
  fun i => (∑ e : Fin 64, w (ix2 e (i 0)) * h (ix2 e (i 1))) + b (ix1 (i 0))

variable (V : (c : Dev nD) → (b : Ref sig .tc) → Buf (Elt Ideal) ((c : Thread nD τ).loc b))

theorem index1 : ∀ t : Fin cfg1.N, win1_1.index t = ![0, t.val] := (by decide +kernel : ∀ t : Fin grid1.N, win1_1.index t = ![0, t.val])
theorem index2 : ∀ t : Fin cfg1.N, win1_2.index t = ![t.val] := (by decide +kernel : ∀ t : Fin grid1.N, win1_2.index t = ![t.val])
theorem index3 : ∀ t : Fin cfg1.N, win1_3.index t = ![t.val, 0] := (by decide +kernel : ∀ t : Fin grid1.N, win1_3.index t = ![t.val, 0])

/-- The row of the result at which a block's entry stands. -/
theorem emb_row (t : Fin cfg1.N) (y : (win1_3.xblock (grid1.coords t)).Idx) : ((win1_3.blk t).view.emb y 0).val = t.val * 4096 + (y 0).val :=
  (win1_3.rect_emb_val_off t y 0).trans (by rw [index3]; rfl)

/-- The column of the result at which a block's entry stands. -/
theorem emb_col (t : Fin cfg1.N) (y : (win1_3.xblock (grid1.coords t)).Idx) : ((win1_3.blk t).view.emb y 1).val = (y 1).val :=
  win1_3.rect_emb_val_of_index_zero t 1 (by rw [index3]; rfl) y

/-- The block of weights as it was fetched, at a column that lies inside the vocabulary. -/
theorem got_weights (c : Dev nD) (t : Fin cfg1.N) (d : S64x4096.Idx → Ideal .f32) (e : Fin 64) (y : (win1_3.xblock (grid1.coords t)).Idx)
    (x : Fin 4096) (hx : x.val = (y 0).val) (i : S100000x1024.Idx) (hi : (i 0).val = t.val * 4096 + (y 0).val) :
    got V c 1 t d (ix2 e x) = V c main_v4 (ix2 e (i 0)) := by
  let z : (win1_1.xblock (grid1.coords t)).Idx := fun | 0 => e | 1 => y 0
  have hz : (ix2 e x : S64x4096.Idx) = win1_1.xinj (grid1.coords t) z := by
    funext a; refine Fin.ext ?_
    match a with
    | ⟨0, _⟩ => rfl
    | ⟨1, _⟩ => exact hx
  rw [hz]
  refine ((cfg1.win 1).fill_xinj _ _ _ z).trans ?_
  show V c main_v4 ((win1_1.blk t).view.emb z) = _
  congr 1
  have e1 := index1
  funext a; refine Fin.ext ?_
  match a with
  | ⟨0, _⟩ => blk_simp [e1]; rfl
  | ⟨1, _⟩ => blk_simp [e1]; exact hi.symm

/-- The block of biases as it was fetched, at a row that lies inside the vocabulary. -/
theorem got_bias (c : Dev nD) (t : Fin cfg1.N) (d : S4096.Idx → Ideal .f32) (y : (win1_3.xblock (grid1.coords t)).Idx)
    (x : Fin 4096) (hx : x.val = (y 0).val) (i : S100000x1024.Idx) (hi : (i 0).val = t.val * 4096 + (y 0).val) :
    got V c 2 t d (ix1 x) = V c main_arg3 (ix1 (i 0)) := by
  let z : (win1_2.xblock (grid1.coords t)).Idx := fun | 0 => y 0
  have hz : (ix1 x : S4096.Idx) = win1_2.xinj (grid1.coords t) z := by
    funext a; refine Fin.ext ?_
    match a with
    | ⟨0, _⟩ => exact hx
  rw [hz]
  refine ((cfg1.win 2).fill_xinj _ _ _ z).trans ?_
  show V c main_arg3 ((win1_2.blk t).view.emb z) = _
  congr 1
  have e1 := index2
  funext a; refine Fin.ext ?_
  match a with
  | ⟨0, _⟩ => blk_simp [e1]; exact hi.symm

/-- The whole table's only block is the array of hidden values. -/
theorem table_eq (c : Dev nD) : table V c = V c main_v3 := by
  funext y
  show V c main_v3 ((win1_0.blk t0).view.emb y) = _
  congr 1
  funext a; refine Fin.ext ?_
  match a with
  | ⟨0, _⟩ => blk_simp; rw [show win1_0.index t0 0 = 0 from rfl, Nat.zero_mul, Nat.zero_add]
  | ⟨1, _⟩ => blk_simp; rw [show win1_0.index t0 1 = 0 from rfl, Nat.zero_mul, Nat.zero_add]

/-- What the body may leave at a block's entry that lies inside the vocabulary is the projection there. -/
theorem left_apply (c : Dev nD) (t : Fin cfg1.N) (d1 : S64x4096.Idx → Ideal .f32) (d2 : S4096.Idx → Ideal .f32)
    (y : (win1_3.xblock (grid1.coords t)).Idx) (x : Fin 4096) (hx : x.val = (y 0).val) (i : S100000x1024.Idx)
    (hi : (i 0).val = t.val * 4096 + (y 0).val) :
    k1_pay1 (got V c 2 t d2) (got V c 1 t d1) (table V c) (ix2 x (i 1)) = logits (V c main_v4) (V c main_v3) (V c main_arg3) i := by
  refine (payload_apply _ _ _ x (i 1)).trans ?_
  rw [got_bias V c t d2 y x hx i hi, table_eq]
  refine congrArg (· + _) (Finset.sum_congr rfl fun e _ => ?_)
  rw [got_weights V c t d1 e y x hx i hi]

/-- Whatever may stand in the result's array at the end, it is the projection. -/
theorem arrAt_eq (c : Dev nD) (f : S100000x1024.Idx → Ideal .f32) (hf : (rdat V c).ArrAt 3 cfg1.N f) :
    f = logits (V c main_v4) (V c main_v3) (V c main_arg3) := by
  obtain ⟨X, hX, hA⟩ := hf.exists_exact
  rw [hA (Function.update (fun _ _ _ => Classical.arbitrary _) 3 X) fun u _ _ => by rw [Function.update_self]]
  refine Dat.arrAt_eq_of_covers _ 3 _ (by decide +kernel) fun t ht y => ?_
  rw [RDat.withAfter_after, Function.update_self]
  obtain ⟨Y, -, d1, d2, e⟩ := hX t t.isLt ht
  rw [e]
  blk_simp
  generalize hi : (win1_3.blk t).view.emb y = i
  have h0 : (i 0).val = t.val * 4096 + (y 0).val := hi ▸ emb_row t y
  have h1 : (i 1).val = (y 1).val := hi ▸ emb_col t y
  let x : Fin 4096 := ((cfg1.win 3).xinj (cfg1.grid.coords t) y) 0
  have hxy : (cfg1.win 3).xinj (cfg1.grid.coords t) y = (ix2 x (i 1) : S4096x1024.Idx) := by
    funext a; refine Fin.ext ?_
    match a with
    | ⟨0, _⟩ => rfl
    | ⟨1, _⟩ => exact h1.symm
  rw [hxy]
  exact left_apply V c t d1 d2 y x rfl i h0

end Cert.Proof.KernelIdealLogits

end
-- ==== Proof.Score.lean ====
/-
  What both programs compute, in one formula: the score of a vocabulary row for a batch element is the product of the row of
  output weights with the mean of the context's twenty table rows, plus the row's bias.
-/
module

public import Idealize.ShloMosaic.PureOps.Ideal
public import Idealize.ShloMosaic.Lib.Pointwise

@[expose] public section

noncomputable section

namespace Cert.Proof.Score

open Idealize.ShloMosaic

/-- The row of the table that a word names. -/
def rowOf (w : BitVec 32) : Fin 100000 := ⟨w.toNat % 100000, Nat.mod_lt _ (by decide)⟩

/-- The mean of the table rows a context names, at one column. -/
def mean (words : (⟨2, ![1024, 20]⟩ : Shape).Idx → BitVec 32) (table : (⟨2, ![100000, 64]⟩ : Shape).Idx → EReal) (b : Fin 1024) (e : Fin 64) : EReal :=
  (∑ k : Fin 20, table (ix2 (rowOf (words (ix2 b k))) e)) * ((1 / 20 : ℝ) : EReal)

/-- The score of a row of the vocabulary for a batch element. -/
def score (words : (⟨2, ![1024, 20]⟩ : Shape).Idx → BitVec 32) (table weights : (⟨2, ![100000, 64]⟩ : Shape).Idx → EReal)
    (bias : (⟨1, ![100000]⟩ : Shape).Idx → EReal) (b : Fin 1024) (v : Fin 100000) : EReal :=
  (∑ e : Fin 64, mean words table b e * weights (ix2 v e)) + bias (ix1 v)

end Cert.Proof.Score

end
-- ==== Proof.KernelIdealScore.lean ====
/-
  What the kernel leaves, read over the extended reals: the scores.
-/
module

public import proofs.«01_k».proof.Proof.KernelIdealLogits
public import proofs.«01_k».proof.Proof.Score

@[expose] public section

noncomputable section

namespace Cert.Proof.KernelIdealScore

open Cert.KernelIdeal Cert.KernelIdeal.Gen
open Idealize.ShloMosaic Idealize.ShloMosaic.TcCoe
open Cert.Proof.KernelIdealTile Cert.Proof.KernelIdealLaunch Cert.Proof.Score

/-- The constant the kernel multiplies by is one twentieth. -/
theorem invc_eq : invc (F := Ideal) = ((1 / 20 : ℝ) : EReal) := IdealRules.named_const.ideal_named_scalar κ "inv_ctx" _ _ rfl

/-- The left fold over the context is the sum over it. -/
theorem acc_eq (f2 : S64x100000.Idx → Ideal .f32) (f1 : S20480.Idx → BitVec 32) (e b n : ℕ) :
    acc f2 f1 e n b = ∑ k ∈ Finset.range (n + 1), entry f2 e (word f1 (1024 * k + b)) := by
  induction n with
  | zero => rw [Finset.sum_range_one, Nat.mul_zero, Nat.zero_add]; rfl
  | succ n ih => rw [Finset.sum_range_succ, ← ih]; rfl

variable (m : (ℓ : Loc nD τ sig) → Buf (Elt Ideal) ℓ)

/-- Word `1024 k + b` of the list is word `k` of batch element `b`'s context. -/
theorem words_apply (d : Dev nD) (b : Fin 1024) (k : Fin 20) :
    words m d (pos20480 (1024 * k.val + b.val)) = (m ((d : Thread nD τ).loc main_arg0) : S1024x20.Idx → BitVec 32) (ix2 b k) := by
  have h : 1024 * k.val + b.val < 20480 := by omega
  rw [show pos20480 (1024 * k.val + b.val) = ix1 ⟨1024 * k.val + b.val, h⟩ from pos20480_val (ix1 ⟨1024 * k.val + b.val, h⟩)]
  pointwise [words]

/-- The hidden layer is the mean of the context's rows. -/
theorem hidden_apply (d : Dev nD) (e : Fin 64) (b : Fin 1024) :
    KernelIdealLaunch.hidden m d (ix2 e b) = mean (m ((d : Thread nD τ).loc main_arg0)) (m ((d : Thread nD τ).loc main_arg1)) b e := by
  show FloatOps.mulf (acc (tbl m d) (words m d) e.val 19 b.val) invc = _
  rw [acc_eq, invc_eq, ← Fin.sum_univ_eq_sum_range (fun k => entry (tbl m d) e.val (word (words m d) (1024 * k + b.val))) 20]
  refine congrArg (· * _) (Finset.sum_congr rfl fun k _ => ?_)
  show tbl m d (posTable e.val (words m d (pos20480 (1024 * k.val + b.val))).toNat) = _
  rw [words_apply]
  pointwise [tbl]
  exact congrArg _ (congrArg₂ ix2 rfl (Fin.ext (Nat.mod_eq_of_lt e.isLt)))

/-- The output weights as the kernel reads them are the argument's, turned. -/
theorem wgt_apply (d : Dev nD) (e : Fin 64) (v : Fin 100000) :
    wgt m d (ix2 e v) = (m ((d : Thread nD τ).loc main_arg2) : S100000x64.Idx → Ideal .f32) (ix2 v e) := by
  pointwise [wgt]

/-- The result is the scores. -/
theorem out_eq (d : Dev nD) (g : S1024x100000.Idx → Ideal .f32) (h : OutOK m d g) :
    g = fun i => score (m ((d : Thread nD τ).loc main_arg0)) (m ((d : Thread nD τ).loc main_arg1)) (m ((d : Thread nD τ).loc main_arg2))
      (m ((d : Thread nD τ).loc main_arg3)) (i 0) (i 1) := by
  obtain ⟨f, hf, rfl⟩ := h
  rw [KernelIdealLogits.arrAt_eq _ d f hf, before_v3, before_v4, before_other m d main_arg3 (by decide) (by decide)]
  funext i
  pointwise [KernelIdealLogits.logits]
  refine congrArg (· + _) (Finset.sum_congr rfl fun e _ => ?_)
  exact (congrArg₂ (· * ·) (wgt_apply m d e (i 1)) (hidden_apply m d e (i 0))).trans (mul_comm _ _)

end Cert.Proof.KernelIdealScore

end
-- ==== Proof.ReferenceScore.lean ====
/-
  What the reference leaves, read over the extended reals: the scores.
-/
module

public import proofs.«01_k».proof.Proof.Gen.ReferenceIdeal.Run
public import proofs.«01_k».proof.Proof.Score
public import Idealize.ShloMosaic.Lib.Pointwise
public import Idealize.ShloMosaic.Lib.ReduceAll

@[expose] public section

noncomputable section

namespace Cert.Proof.ReferenceScore

open Cert.ReferenceIdeal Cert.ReferenceIdeal.Gen Cert.ReferenceIdeal.Facts
open Idealize.ShloMosaic
open Cert.Proof.Score

/-- The gather of whole rows, at an entry: the row is the start word read as a signed number and clamped to the table. -/
theorem gather_apply (x : S100000x64.Idx → EReal) (idx : IVec S1024x20x1 32) (b : Fin 1024) (k : Fin 20) (e : Fin 64) :
    Host.gather gather_S100000x64_S1024x20x1_S1024x20x64_2_0_n_n_0_2_164 x idx (ix3 b k e)
      = x (ix2 ⟨min (idx (ix3 b k 0)).toInt.toNat 99999, by omega⟩ e) := by
  unfold Host.gather
  congr 1
  funext a
  refine Fin.ext ?_
  have hs : gather_S100000x64_S1024x20x1_S1024x20x64_2_0_n_n_0_2_164.siIdx (ix3 b k e) ⟨0, by decide⟩ = ix3 b k 0 := by
    funext c
    refine Fin.ext ?_
    match c with
    | ⟨0, _⟩ => rfl
    | ⟨1, _⟩ => rfl
    | ⟨2, _⟩ => rfl
  match a with
  | ⟨0, _⟩ =>
    show gather_S100000x64_S1024x20x1_S1024x20x64_2_0_n_n_0_2_164.start (ix3 b k e) idx 0 + 0 + 0 = _
    exact congrArg (fun q => min (idx q).toInt.toNat 99999) hs
  | ⟨1, _⟩ =>
    show 0 + 0 + e.val = e.val
    omega

/-- The words as the gather reads them: a negative word counts from the table's end. -/
def starts (a0 : IVec S1024x20 32) : IVec S1024x20x1 32 :=
  broadcastInDim S1024x20x1 ![0, 1] bcast_S1024x20_S1024x20x1_0_1
    (select (cmpi .slt a0 (broadcastInDim S1024x20 ![] bcast_S_S1024x20 (constantI S_ 32 0#32)))
      (addi a0 (broadcastInDim S1024x20 ![] bcast_S_S1024x20 (constantI S_ 32 100000#32))) a0)

/-- Whether each word lies in the table. -/
def inside (a0 : IVec S1024x20 32) : IVec S1024x20 1 :=
  Host.reduce IntOp.andi (andi (cmpi .sge (starts a0) (broadcastInDim S1024x20x1 ![] bcast_S_S1024x20x1 (constantI S_ 32 0#32)))
    (cmpi .sle (starts a0) (broadcastInDim S1024x20x1 ![0, 1, 2] bcast_S1x1x1_S1024x20x1_0_1_2 (broadcastInDim S1x1x1 ![2] bcast_S1_S1x1x1_2 (constantI S1 32 99999#32)))))
    (constantI S_ 1 1#1) reducesTo_S1024x20x1_S1024x20_d2 h_S_

/-- The rows the reference takes, NaN where the word lies outside the table. -/
def taken (a0 : IVec S1024x20 32) (a1 : FVec Ideal S100000x64 .f32) : FVec Ideal S1024x20x64 .f32 :=
  select (broadcastInDim S1024x20x64 ![0, 1] bcast_S1024x20_S1024x20x64_0_1 (inside a0))
    (Host.gather gather_S100000x64_S1024x20x1_S1024x20x64_2_0_n_n_0_2_164 a1 (starts a0))
    (broadcastInDim S1024x20x64 ![] bcast_S_S1024x20x64 (constant S_ .f32 0x7FC00000#32))

/-- A word that names a row is read as it is. -/
theorem starts_apply (a0 : IVec S1024x20 32) (h : ∀ i, (a0 i).toNat < 100000) (b : Fin 1024) (k : Fin 20) (z : Fin 1) :
    starts a0 (ix3 b k z) = a0 (ix2 b k) := by
  have := h (ix2 b k)
  pointwise [starts]
  rw [show IntOp.cmpi CmpIPredicate.slt (a0 (ix2 b k)) 0#32 = 0#1 from ?_]
  · rfl
  · show BitVec.ofBool _ = BitVec.ofBool false
    congr 1
    rw [BitVec.slt_eq_decide, decide_eq_false_iff_not, BitVec.toInt_eq_toNat_cond, if_pos (by omega)]
    show ¬ ((_ : ℕ) : ℤ) < 0
    omega

/-- Every word that names a row lies in the table. -/
theorem inside_apply (a0 : IVec S1024x20 32) (h : ∀ i, (a0 i).toNat < 100000) (j : S1024x20.Idx) : inside a0 j = 1#1 := by
  refine Host.reduce_andi_one _ _ _ _ _ rfl fun i => ?_
  have hb := h (ix2 (i 0) (i 1))
  have e : starts a0 i = a0 (ix2 (i 0) (i 1)) := (congrArg _ (eq_ix3 i)).trans (starts_apply a0 h (i 0) (i 1) (i 2))
  pointwise
  rw [e]
  have both : ∀ p q : Bool, p = true → q = true → IntOp.andi (BitVec.ofBool p) (BitVec.ofBool q) = 1#1 := by decide
  refine both _ _ ?_ ?_
  all_goals
    simp only [BitVec.sle_eq_decide, decide_eq_true_eq, BitVec.toInt_eq_toNat_cond, BitVec.toNat_ofNat, Nat.reducePow, Nat.reduceMod]
    omega

/-- The rows the reference takes are the rows the words name. -/
theorem taken_apply (a0 : IVec S1024x20 32) (a1 : FVec Ideal S100000x64 .f32) (h : ∀ i, (a0 i).toNat < 100000) (b : Fin 1024) (k : Fin 20) (e : Fin 64) :
    taken a0 a1 (ix3 b k e) = a1 (ix2 (rowOf (a0 (ix2 b k))) e) := by
  have hb := h (ix2 b k)
  pointwise [taken]
  rw [inside_apply a0 h]
  refine (gather_apply a1 (starts a0) b k e).trans (congrArg (fun r => a1 (ix2 r e)) (Fin.ext ?_))
  show min (starts a0 (ix3 b k 0)).toInt.toNat 99999 = (a0 (ix2 b k)).toNat % 100000
  rw [starts_apply a0 h, BitVec.toInt_eq_toNat_cond, if_pos (by omega)]
  omega

/-- The reference's result, as one term of its arguments. -/
def result (a0 : IVec S1024x20 32) (a1 a2 : FVec Ideal S100000x64 .f32) (a3 : FVec Ideal S100000 .f32) : FVec Ideal S1024x100000 .f32 :=
  addf (Host.dotGeneral dot_S1024x64_S64x100000_S1024x100000_1_0_0_1_n_n none
      (Host.divf (Host.reduceAdd (taken a0 a1) (constant S_ .f32 0x00000000#32) reducesTo_S1024x20x64_S1024x64_d1 h_S_)
        (broadcastInDim S1024x64 ![] bcast_S_S1024x64 (constant S_ .f32 0x41A00000#32)))
      (transpose S64x100000 [1, 0] a2 transposes_S100000x64_S64x100000_1_0))
    (broadcastInDim S1024x100000 ![0, 1] bcast_S1x100000_S1024x100000_0_1 (broadcastInDim S1x100000 ![1] bcast_S100000_S1x100000_1 a3))

/-- The bit pattern of the divisor is twenty. -/
theorem twenty : Ideal.ofBits .f32 0x41A00000#32 = ((20 : ℝ) : EReal) := by
  simp [Ideal.ofBits, Ideal.ieee, -EReal.coe_mul]
  norm_num

/-- Dividing by twenty is multiplying by one twentieth. -/
theorem div_twenty (x : EReal) : Ideal.div x ((20 : ℝ) : EReal) = x * ((1 / 20 : ℝ) : EReal) := by
  rw [Ideal.div, if_neg (by norm_num), ← EReal.coe_inv, one_div]

/-- The reference's result is the scores. -/
theorem result_apply (a0 : IVec S1024x20 32) (a1 a2 : FVec Ideal S100000x64 .f32) (a3 : FVec Ideal S100000 .f32) (h : ∀ i, (a0 i).toNat < 100000)
    (b : Fin 1024) (v : Fin 100000) : result a0 a1 a2 a3 (ix2 b v) = score a0 a1 a2 a3 b v := by
  pointwise [result]
  simp only [twenty, div_twenty, taken_apply a0 a1 h]
  rfl

/-- The reference's result is the scores, as a whole array. -/
theorem result_eq (a0 : IVec S1024x20 32) (a1 a2 : FVec Ideal S100000x64 .f32) (a3 : FVec Ideal S100000 .f32) (h : ∀ i, (a0 i).toNat < 100000) :
    result a0 a1 a2 a3 = fun i => score a0 a1 a2 a3 (i 0) (i 1) :=
  funext fun i => (congrArg _ (eq_ix2 i)).trans (result_apply a0 a1 a2 a3 h (i 0) (i 1))

end Cert.Proof.ReferenceScore

end
-- ==== Proof.Equal.lean ====
/-
  The kernel and the reference, read over the extended reals, leave the same scores.
-/
module

public import proofs.«01_k».proof.Proof.Frames
public import proofs.«01_k».proof.Proof.KernelIdealScore
public import proofs.«01_k».proof.Proof.ReferenceScore

@[expose] public section

noncomputable section

namespace Cert.Proof.Equal

open Idealize.ShloMosaic Idealize.SL.Sem
open Cert.Proof.Score

/-- From memories that agree on the arguments, every result of either program is the scores of those arguments. -/
theorem algebraic : Cert.algebraic_KernelIdeal_ReferenceIdeal := by
  intro m g m' g' hpre hag
  have hw : ∀ (c : Dev Cert.KernelIdeal.nD) i, (m ((c.tc : Thread Cert.KernelIdeal.nD Cert.KernelIdeal.τ).loc Cert.KernelIdeal.main_arg0) i).toNat < 100000 :=
    fun c => Vocab.words_lt _ _ _ _ (hpre c)
  refine ⟨fun c i => score (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (i 0) (i 1), ?_, ?_⟩
  · refine (θ_run Cert.KernelIdeal.defs _ _).mono (fun r h c => ?_) (KernelIdealLaunch.run_main (F := Ideal) m g (Frames.kernelIdeal_words m hpre))
    obtain ⟨h0, h1, h2, h3, h6⟩ := h.1 c
    exact ⟨KernelIdealScore.out_eq m c _ h6, h0, h1, h2, h3⟩
  · refine (θ_run Cert.ReferenceIdeal.defs _ _).mono (fun r h c => ?_) (Cert.ReferenceIdeal.Value.run (F := Ideal) m' g')
    obtain ⟨h8, h⟩ := h c
    obtain ⟨e0, e1, e2, e3⟩ := hag c
    refine ⟨h8.trans ?_, h⟩
    rw [e0, e1, e2, e3]
    exact ReferenceScore.result_eq _ _ _ _ (hw c)

end Cert.Proof.Equal

end
-- ==== Proof.lean ====
/-
  The proof of everything this directory claims: the frames of the kernel, of its reading over the extended reals and of the
  reference, the named constant, and the equality of the two results.
-/
module

public import proofs.«01_k».proof.Defs
public import proofs.«01_k».proof.Proof.Gen.Kernel
public import proofs.«01_k».proof.Proof.Gen.ReferenceIdeal.Run
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_vocab
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The certificate's claim: the four frames, the named constant, and the equality of the results. -/
theorem claim : Cert.Claim := ⟨Cert.Kernel.Gen.facts, Cert.KernelIdeal.Gen.facts, Cert.ReferenceIdeal.Gen.facts, Cert.Pre_in_vocab.Gen.facts,
  Frames.kernel, Frames.kernelIdeal, Frames.reference, Frames.reference_in_vocab, Frames.preserves, Equal.algebraic⟩

end Cert.Proof

end
